-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tiny [hPre_no_tiny : Cert.Pre_no_tiny.Facts] (m : (ℓ : Loc Cert.KernelIdeal.nD Cert.KernelIdeal.τ Cert.KernelIdeal.sig) → Buf (Elt Ideal) ℓ) : Prop :=
  ∀ c : Dev Cert.KernelIdeal.nD,
    (Cert.Pre_no_tiny.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tiny [hPre_no_tiny : Cert.Pre_no_tiny.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tiny.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_no_tiny [hKernelIdeal : Cert.KernelIdeal.Facts] [hPre_no_tiny : Cert.Pre_no_tiny.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tiny m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_no_tiny [hReferenceIdeal : Cert.ReferenceIdeal.Facts] [hPre_no_tiny : Cert.Pre_no_tiny.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tiny m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_no_tiny [hKernelIdeal : Cert.KernelIdeal.Facts] [hReferenceIdeal : Cert.ReferenceIdeal.Facts] [hPre_no_tiny : Cert.Pre_no_tiny.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tiny m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_no_tiny : Cert.Pre_no_tiny.Facts),
    quiescent_Kernel (hKernel := hKernel)
    ∧ quiescent_KernelIdeal (hKernelIdeal := hKernelIdeal)
    ∧ quiescent_KernelIdeal_pre_no_tiny (hKernelIdeal := hKernelIdeal) (hPre_no_tiny := hPre_no_tiny)
    ∧ quiescent_ReferenceIdeal (hReferenceIdeal := hReferenceIdeal)
    ∧ quiescent_ReferenceIdeal_pre_no_tiny (hReferenceIdeal := hReferenceIdeal) (hPre_no_tiny := hPre_no_tiny)
    ∧ preserves_Kernel_KernelIdeal
    ∧ algebraic_KernelIdeal_ReferenceIdeal_pre_no_tiny (hKernelIdeal := hKernelIdeal) (hReferenceIdeal := hReferenceIdeal) (hPre_no_tiny := hPre_no_tiny)
-- ==== Pre_no_tiny.lean ====
abbrev S1024x1x28x28 : Shape := ⟨4, ![1024, 1, 28, 28]⟩
abbrev S28x28x2 : Shape := ⟨3, ![28, 28, 2]⟩
abbrev S28x28 : Shape := ⟨2, ![28, 28]⟩
abbrev S_ : Shape := ⟨0, ![]⟩

class Facts : Prop where
  bcast_S_S1024x1x28x28 : S_.BroadcastsInDim S1024x1x28x28 (![] : Fin 0 → Fin S1024x1x28x28.rank)

variable [Facts]

def fn {F : FTy → Type} [FloatOps F] (main_arg0 : FVec F S1024x1x28x28 .f32) (main_arg1 : FVec F S28x28x2 .f32) (main_arg2 : FVec F S28x28 .f32) : IVec S1024x1x28x28 1 :=
  let main_cst : FVec F S_ .f32 := constant S_ .f32 0x00000000#32
  let main_v0 : FVec F S1024x1x28x28 .f32 := broadcastInDim S1024x1x28x28 ![] bcast_S_S1024x1x28x28 main_cst
  let main_v1 : IVec S1024x1x28x28 1 := cmpf .oeq main_arg0 main_v0
  let main_v2 : FVec F S1024x1x28x28 .f32 := Host.absf main_arg0
  let main_cst_0 : FVec F S_ .f32 := constant S_ .f32 0x322BCC77#32
  let main_v3 : FVec F S1024x1x28x28 .f32 := broadcastInDim S1024x1x28x28 ![] bcast_S_S1024x1x28x28 main_cst_0
  let main_v4 : IVec S1024x1x28x28 1 := cmpf .ogt main_v2 main_v3
  let main_v5 : IVec S1024x1x28x28 1 := ori main_v1 main_v4
  main_v5
-- ==== Kernel.lean ====
abbrev S1024x1x28x28 : Shape := ⟨4, ![1024, 1, 28, 28]⟩
abbrev S28x28x2 : Shape := ⟨3, ![28, 28, 2]⟩
abbrev S28x28 : Shape := ⟨2, ![28, 28]⟩
abbrev S1024x784 : Shape := ⟨2, ![1024, 784]⟩
abbrev S784x784 : Shape := ⟨2, ![784, 784]⟩
abbrev S4 : Shape := ⟨1, ![4]⟩
abbrev S1 : Shape := ⟨1, ![1]⟩
abbrev S_ : Shape := ⟨0, ![]⟩
abbrev S256x784 : Shape := ⟨2, ![256, 784]⟩
abbrev S28x28x1 : Shape := ⟨3, ![28, 28, 1]⟩
abbrev S1x28 : Shape := ⟨2, ![1, 28]⟩
abbrev S1x784 : Shape := ⟨2, ![1, 784]⟩

abbrev nBuf : Space → Nat
  | .hbm => 6
  | .vmem => 5
  | .smem => 0
  | _ => 0

abbrev bufTy : (tb : Table) → Fin (tcTables nBuf tb) → BufTy
  | .hbm, ⟨0, _⟩ => ⟨S1024x1x28x28, .f32⟩
  | .hbm, ⟨1, _⟩ => ⟨S28x28x2, .f32⟩
  | .hbm, ⟨2, _⟩ => ⟨S28x28, .f32⟩
  | .hbm, ⟨3, _⟩ => ⟨S1024x784, .f32⟩
  | .hbm, ⟨4, _⟩ => ⟨S1024x784, .f32⟩
  | .hbm, ⟨5, _⟩ => ⟨S1024x1x28x28, .f32⟩
  | .local _ .vmem, ⟨0, _⟩ => ⟨S28x28x2, .f32⟩
  | .local _ .vmem, ⟨1, _⟩ => ⟨S28x28, .f32⟩
  | .local _ .vmem, ⟨2, _⟩ => ⟨S784x784, .f32⟩
  | .local _ .vmem, ⟨3, _⟩ => ⟨S1024x784, .f32⟩
  | .local _ .vmem, ⟨4, _⟩ => ⟨S1024x784, .f32⟩
  | _, _ => ⟨S1024x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S28x28x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S28x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x1x28x28 : Shape := ⟨4, ![1024, 1, 28, 28]⟩
abbrev S28x28x2 : Shape := ⟨3, ![28, 28, 2]⟩
abbrev S28x28 : Shape := ⟨2, ![28, 28]⟩
abbrev S5 : Shape := ⟨1, ![5]⟩
abbrev S_ : Shape := ⟨0, ![]⟩
abbrev S5x5 : Shape := ⟨2, ![5, 5]⟩
abbrev S5x5x1 : Shape := ⟨3, ![5, 5, 1]⟩
abbrev S5x5x2 : Shape := ⟨3, ![5, 5, 2]⟩
abbrev S28x28x1x1x2 : Shape := ⟨5, ![28, 28, 1, 1, 2]⟩
abbrev S1x1x5x5x2 : Shape := ⟨5, ![1, 1, 5, 5, 2]⟩
abbrev S28x28x5x5x2 : Shape := ⟨5, ![28, 28, 5, 5, 2]⟩
abbrev S28x28x5x5x1 : Shape := ⟨5, ![28, 28, 5, 5, 1]⟩
abbrev S28x28x5x5 : Shape := ⟨4, ![28, 28, 5, 5]⟩
abbrev S1024x1x28x28x5x5 : Shape := ⟨6, ![1024, 1, 28, 28, 5, 5]⟩
abbrev S1x1x28x28x5x5 : Shape := ⟨6, ![1, 1, 28, 28, 5, 5]⟩
abbrev S1x1x28x28x1x1 : Shape := ⟨6, ![1, 1, 28, 28, 1, 1]⟩

abbrev nBuf : Space → Nat
  | .hbm => 118
  | .vmem => 0
  | .smem => 0
  | _ => 0

abbrev bufTy : (tb : Table) → Fin (tcTables nBuf tb) → BufTy
  | .hbm, ⟨0, _⟩ => ⟨S1024x1x28x28, .f32⟩
  | .hbm, ⟨1, _⟩ => ⟨S28x28x2, .f32⟩
  | .hbm, ⟨2, _⟩ => ⟨S28x28, .f32⟩
  | .hbm, ⟨3, _⟩ => ⟨S5, .i32⟩
  | .hbm, ⟨4, _⟩ => ⟨S_, .i32⟩
  | .hbm, ⟨5, _⟩ => ⟨S5, .i32⟩
  | .hbm, ⟨6, _⟩ => ⟨S5, .i32⟩
  | .hbm, ⟨7, _⟩ => ⟨S5, .i32⟩
  | .hbm, ⟨8, _⟩ => ⟨S_, .i32⟩
  | .hbm, ⟨9, _⟩ => ⟨S5, .i32⟩
  | .hbm, ⟨10, _⟩ => ⟨S5, .i32⟩
  | .hbm, ⟨11, _⟩ => ⟨S5x5, .i32⟩
  | .hbm, ⟨12, _⟩ => ⟨S5x5, .i32⟩
  | .hbm, ⟨13, _⟩ => ⟨S5x5x1, .i32⟩
  | .hbm, ⟨14, _⟩ => ⟨S5x5x1, .i32⟩
  | .hbm, ⟨15, _⟩ => ⟨S5x5x2, .i32⟩
  | .hbm, ⟨16, _⟩ => ⟨S5x5x2, .f32⟩
  | .hbm, ⟨17, _⟩ => ⟨S28x28x2, .f32⟩
  | .hbm, ⟨18, _⟩ => ⟨S28x28x1x1x2, .f32⟩
  | .hbm, ⟨19, _⟩ => ⟨S1x1x5x5x2, .f32⟩
  | .hbm, ⟨20, _⟩ => ⟨S28x28x5x5x2, .f32⟩
  | .hbm, ⟨21, _⟩ => ⟨S28x28x5x5x2, .f32⟩
  | .hbm, ⟨22, _⟩ => ⟨S28x28x5x5x2, .f32⟩
  | .hbm, ⟨23, _⟩ => ⟨S28x28x5x5x2, .i32⟩
  | .hbm, ⟨24, _⟩ => ⟨S28x28x5x5x1, .i32⟩
  | .hbm, ⟨25, _⟩ => ⟨S28x28x5x5, .i32⟩
  | .hbm, ⟨26, _⟩ => ⟨S_, .i32⟩
  | .hbm, ⟨27, _⟩ => ⟨S28x28x5x5, .i32⟩
  | .hbm, ⟨28, _⟩ => ⟨S28x28x5x5, .i1⟩
  | .hbm, ⟨29, _⟩ => ⟨S28x28x5x5x1, .i32⟩
  | .hbm, ⟨30, _⟩ => ⟨S28x28x5x5, .i32⟩
  | .hbm, ⟨31, _⟩ => ⟨S_, .i32⟩
  | .hbm, ⟨32, _⟩ => ⟨S28x28x5x5, .i32⟩
  | .hbm, ⟨33, _⟩ => ⟨S28x28x5x5, .i1⟩
  | .hbm, ⟨34, _⟩ => ⟨S28x28x5x5, .i1⟩
  | .hbm, ⟨35, _⟩ => ⟨S28x28x5x5x1, .i32⟩
  | .hbm, ⟨36, _⟩ => ⟨S28x28x5x5, .i32⟩
  | .hbm, ⟨37, _⟩ => ⟨S_, .i32⟩
  | .hbm, ⟨38, _⟩ => ⟨S28x28x5x5, .i32⟩
  | .hbm, ⟨39, _⟩ => ⟨S28x28x5x5, .i1⟩
  | .hbm, ⟨40, _⟩ => ⟨S28x28x5x5, .i1⟩
  | .hbm, ⟨41, _⟩ => ⟨S28x28x5x5x1, .i32⟩
  | .hbm, ⟨42, _⟩ => ⟨S28x28x5x5, .i32⟩
  | .hbm, ⟨43, _⟩ => ⟨S_, .i32⟩
  | .hbm, ⟨44, _⟩ => ⟨S28x28x5x5, .i32⟩
  | .hbm, ⟨45, _⟩ => ⟨S28x28x5x5, .i1⟩
  | .hbm, ⟨46, _⟩ => ⟨S28x28x5x5, .i1⟩
  | .hbm, ⟨47, _⟩ => ⟨S28x28x5x5x1, .i32⟩
  | .hbm, ⟨48, _⟩ => ⟨S28x28x5x5, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S28x28x5x5, .i32⟩
  | .hbm, ⟨53, _⟩ => ⟨S28x28x5x5, .i32⟩
  | .hbm, ⟨54, _⟩ => ⟨S_, .i32⟩
  | .hbm, ⟨55, _⟩ => ⟨S28x28x5x5, .i32⟩
  | .hbm, ⟨56, _⟩ => ⟨S28x28x5x5, .i32⟩
  | .hbm, ⟨57, _⟩ => ⟨S28x28x5x5x1, .i32⟩
  | .hbm, ⟨58, _⟩ => ⟨S28x28x5x5, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S28x28x5x5, .i32⟩
  | .hbm, ⟨63, _⟩ => ⟨S28x28x5x5, .i32⟩
  | .hbm, ⟨64, _⟩ => ⟨S_, .i32⟩
  | .hbm, ⟨65, _⟩ => ⟨S28x28x5x5, .i32⟩
  | .hbm, ⟨66, _⟩ => ⟨S28x28x5x5, .i32⟩
  | .hbm, ⟨67, _⟩ => ⟨S_, .i32⟩
  | .hbm, ⟨68, _⟩ => ⟨S28x28x5x5, .i32⟩
  | .hbm, ⟨69, _⟩ => ⟨S28x28x5x5, .i1⟩
  | .hbm, ⟨70, _⟩ => ⟨S_, .i32⟩
  | .hbm, ⟨71, _⟩ => ⟨S28x28x5x5, .i32⟩
  | .hbm, ⟨72, _⟩ => ⟨S28x28x5x5, .i32⟩
  | .hbm, ⟨73, _⟩ => ⟨S28x28x5x5, .i32⟩
  | .hbm, ⟨74, _⟩ => ⟨S_, .i32⟩
  | .hbm, ⟨75, _⟩ => ⟨S28x28x5x5, .i32⟩
  | .hbm, ⟨76, _⟩ => ⟨S28x28x5x5, .i1⟩
  | .hbm, ⟨77, _⟩ => ⟨S_, .i32⟩
  | .hbm, ⟨78, _⟩ => ⟨S28x28x5x5, .i32⟩
  | .hbm, ⟨79, _⟩ => ⟨S28x28x5x5, .i32⟩
  | .hbm, ⟨80, _⟩ => ⟨S28x28x5x5, .i32⟩
  | .hbm, ⟨81, _⟩ => ⟨S28x28x5x5x1, .i32⟩
  | .hbm, ⟨82, _⟩ => ⟨S28x28x5x5x1, .i32⟩
  | .hbm, ⟨83, _⟩ => ⟨S28x28x5x5x2, .i32⟩
  | .hbm, ⟨84, _⟩ => ⟨S1024x1x28x28x5x5, .f32⟩
  | .hbm, ⟨85, _⟩ => ⟨S1x1x28x28x5x5, .i1⟩
  | .hbm, ⟨86, _⟩ => ⟨S_, .f32⟩
  | .hbm, ⟨87, _⟩ => ⟨S_, .f32⟩
  | .hbm, ⟨88, _⟩ => ⟨S1024x1x28x28x5x5, .i1⟩
  | .hbm, ⟨89, _⟩ => ⟨S1024x1x28x28x5x5, .f32⟩
  | .hbm, ⟨90, _⟩ => ⟨S1024x1x28x28x5x5, .f32⟩
  | .hbm, ⟨91, _⟩ => ⟨S28x28x5x5x2, .f32⟩
  | .hbm, ⟨92, _⟩ => ⟨S28x28x1x1x2, .f32⟩
  | .hbm, ⟨93, _⟩ => ⟨S28x28x5x5x2, .f32⟩
  | .hbm, ⟨94, _⟩ => ⟨S28x28x5x5x2, .f32⟩
  | .hbm, ⟨95, _⟩ => ⟨S28x28x5x5x2, .f32⟩
  | .hbm, ⟨96, _⟩ => ⟨S_, .f32⟩
  | .hbm, ⟨97, _⟩ => ⟨S28x28x5x5, .f32⟩
  | .hbm, ⟨98, _⟩ => ⟨S_, .f32⟩
  | .hbm, ⟨99, _⟩ => ⟨S28x28x5x5, .f32⟩
  | .hbm, ⟨100, _⟩ => ⟨S28x28x5x5, .f32⟩
  | .hbm, ⟨101, _⟩ => ⟨S28x28x5x5, .f32⟩
  | .hbm, ⟨102, _⟩ => ⟨S1024x1x28x28x5x5, .f32⟩
  | .hbm, ⟨103, _⟩ => ⟨S_, .f32⟩
  | .hbm, ⟨104, _⟩ => ⟨S1024x1x28x28x5x5, .f32⟩
  | .hbm, ⟨105, _⟩ => ⟨S1024x1x28x28x5x5, .i1⟩
  | .hbm, ⟨106, _⟩ => ⟨S1x1x28x28x5x5, .f32⟩
  | .hbm, ⟨107, _⟩ => ⟨S1024x1x28x28x5x5, .f32⟩
  | .hbm, ⟨108, _⟩ => ⟨S1024x1x28x28x5x5, .f32⟩
  | .hbm, ⟨109, _⟩ => ⟨S1024x1x28x28x5x5, .f32⟩
  | .hbm, ⟨110, _⟩ => ⟨S_, .f32⟩
  | .hbm, ⟨111, _⟩ => ⟨S28x28, .f32⟩
  | .hbm, ⟨112, _⟩ => ⟨S28x28, .f32⟩
  | .hbm, ⟨113, _⟩ => ⟨S1x1x28x28x1x1, .f32⟩
  | .hbm, ⟨114, _⟩ => ⟨S1024x1x28x28x5x5, .f32⟩
  | .hbm, ⟨115, _⟩ => ⟨S1024x1x28x28x5x5, .f32⟩
  | .hbm, ⟨116, _⟩ => ⟨S_, .f32⟩
  | .hbm, ⟨117, _⟩ => ⟨S1024x1x28x28, .f32⟩
  | _, _ => ⟨S1024x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_5 : Ref sig .tc := ⟨.hbm, 49, rfl⟩
abbrev main_c_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_7 : Ref sig .tc := ⟨.hbm, 59, rfl⟩
abbrev main_c_8 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_cst_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_call5_cst : Ref sig .tc := ⟨.hbm, 110, rfl⟩
abbrev main_call5_v0 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_16 : Ref sig .tc := ⟨.hbm, 116, rfl⟩
abbrev main_v80 : Ref sig .tc := ⟨.hbm, 117, rfl⟩

abbrev nD : Nat := 1
abbrev τ : Topo := Topo.v7x

variable {F : FTy → Type} [FloatOps F]
-- ==== Proof.IdealBody.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## Names: the four row blocks of the operands in HBM and of their copies in VMEM, and the copies' cells -/

/-- The input rows in HBM. -/
abbrev xM : Memref sig .tc .hbm S1024x784 .f32 := Memref.whole main_v0
/-- The result rows in HBM. -/
abbrev yM : Memref sig .tc .hbm S1024x784 .f32 := Memref.whole main_v1
/-- The matrix the kernel builds. -/
abbrev aM : Memref sig .tc .vmem S784x784 .f32 := Memref.whole cc0_scratch0
/-- The input rows in VMEM. -/
abbrev xsM : Memref sig .tc .vmem S1024x784 .f32 := Memref.whole cc0_scratch1
/-- The result rows in VMEM. -/
abbrev osM : Memref sig .tc .vmem S1024x784 .f32 := Memref.whole cc0_scratch2

abbrev rowOff (b : Fin 4) : Fin 2 → Nat := ![256 * b.val, 0]
/-- A block of rows lies in the array. -/
theorem rowOff_inb (b : Fin 4) : ∀ a, rowOff b a + S256x784.size a ≤ S1024x784.size a := by
  have := b.isLt; intro a; fin_cases a
  · show 256 * b.val + 256 ≤ 1024; omega
  · show 0 + 784 ≤ 784; omega
abbrev semOff (b : Fin 4) : Fin 1 → Nat := ![b.val]
/-- A cell lies in its semaphore array. -/
theorem semOff_inb (b : Fin 4) : ∀ a, semOff b a + S1.size a ≤ S4.size a := by
  have := b.isLt; intro a; fin_cases a; show b.val + 1 ≤ 4; omega

/-- The rectangle of row block `b`. -/
abbrev rowR (b : Fin 4) : Rect S1024x784 := Rect.unit (s := S1024x784) (rowOff b) S256x784.size (rowOff_inb b)
instance (b : Fin 4) : ClosedOff (rowOff b) := ⟨rowOff b, rfl⟩

def xblk (b : Fin 4) : Memref sig .tc .hbm S256x784 .f32 := xM.slice (rowR b) (fun _ => rfl)
def yblk (b : Fin 4) : Memref sig .tc .hbm S256x784 .f32 := yM.slice (rowR b) (fun _ => rfl)
def xslot (b : Fin 4) : Memref sig .tc .vmem S256x784 .f32 := xsM.slice (rowR b) (fun _ => rfl)
def oslot (b : Fin 4) : Memref sig .tc .vmem S256x784 .f32 := osM.slice (rowR b) (fun _ => rfl)
/-- The cell the copy of input block `b` signals. -/
def icell (b : Fin 4) : DmaSems sig S_ := (cc0_scratch3.slice (Rect.unit (s := S4) (semOff b) S1.size (semOff_inb b))).squeeze S_ squeezes_S1_S_
/-- The cell the copy of result block `b` signals. -/
def ocell (b : Fin 4) : DmaSems sig S_ := (cc0_scratch4.slice (Rect.unit (s := S4) (semOff b) S1.size (semOff_inb b))).squeeze S_ squeezes_S1_S_

/-- A slice of rows by equal offsets is the block. -/
private theorem slice_congr {sp : Space} (M : Memref sig .tc sp S1024x784 .f32) {off : Fin 2 → Nat} {b : Fin 4} (e : off = rowOff b) (hh hs) :
    M.slice (Rect.unit (s := S1024x784) off S256x784.size hh) hs = M.slice (rowR b) (fun _ => rfl) :=
  Memref.slice_unit_congr _ e _ _ _ _
/-- A cell by equal offsets is the same cell. -/
private theorem cell_congr (A : DmaSems sig S4) {off : Fin 1 → Nat} {b : Fin 4} (e : off = semOff b) (hh) :
    (A.slice (Rect.unit (s := S4) off S1.size hh)).squeeze S_ squeezes_S1_S_
      = (A.slice (Rect.unit (s := S4) (semOff b) S1.size (semOff_inb b))).squeeze S_ squeezes_S1_S_ :=
  congrArg (fun A : DmaSems sig S1 => A.squeeze S_ squeezes_S1_S_) (SemArray.slice_unit_congr _ e _ _)

/-- The body's name of a block of the images is `xblk`. -/
@[sl_canon] theorem xblkL0 (hh hs) : xM.slice (Rect.unit (s := S1024x784) ![0, 0] S256x784.size hh) hs = xblk 0 := slice_congr xM (by decide) _ _
/-- The body's name of a block of the images is `xblk`. -/
@[sl_canon] theorem xblkL1 (hh hs) : xM.slice (Rect.unit (s := S1024x784) ![256, 0] S256x784.size hh) hs = xblk 1 := slice_congr xM (by decide) _ _
/-- The body's name of a block of the images is `xblk`. -/
@[sl_canon] theorem xblkL2 (hh hs) : xM.slice (Rect.unit (s := S1024x784) ![512, 0] S256x784.size hh) hs = xblk 2 := slice_congr xM (by decide) _ _
/-- The body's name of a block of the images is `xblk`. -/
@[sl_canon] theorem xblkL3 (hh hs) : xM.slice (Rect.unit (s := S1024x784) ![768, 0] S256x784.size hh) hs = xblk 3 := slice_congr xM (by decide) _ _
/-- The body's name of a block of the result is `yblk`. -/
@[sl_canon] theorem yblkL0 (hh hs) : yM.slice (Rect.unit (s := S1024x784) ![0, 0] S256x784.size hh) hs = yblk 0 := slice_congr yM (by decide) _ _
/-- The body's name of a block of the result is `yblk`. -/
@[sl_canon] theorem yblkL1 (hh hs) : yM.slice (Rect.unit (s := S1024x784) ![256, 0] S256x784.size hh) hs = yblk 1 := slice_congr yM (by decide) _ _
/-- The body's name of a block of the result is `yblk`. -/
@[sl_canon] theorem yblkL2 (hh hs) : yM.slice (Rect.unit (s := S1024x784) ![512, 0] S256x784.size hh) hs = yblk 2 := slice_congr yM (by decide) _ _
/-- The body's name of a block of the result is `yblk`. -/
@[sl_canon] theorem yblkL3 (hh hs) : yM.slice (Rect.unit (s := S1024x784) ![768, 0] S256x784.size hh) hs = yblk 3 := slice_congr yM (by decide) _ _
/-- The body's name of a slot for images is `xslot`. -/
@[sl_canon] theorem xslotL0 (hh hs) : xsM.slice (Rect.unit (s := S1024x784) ![0, 0] S256x784.size hh) hs = xslot 0 := slice_congr xsM (by decide) _ _
/-- The body's name of a slot for images is `xslot`. -/
@[sl_canon] theorem xslotL1 (hh hs) : xsM.slice (Rect.unit (s := S1024x784) ![256, 0] S256x784.size hh) hs = xslot 1 := slice_congr xsM (by decide) _ _
/-- The body's name of a slot for images is `xslot`. -/
@[sl_canon] theorem xslotL2 (hh hs) : xsM.slice (Rect.unit (s := S1024x784) ![512, 0] S256x784.size hh) hs = xslot 2 := slice_congr xsM (by decide) _ _
/-- The body's name of a slot for images is `xslot`. -/
@[sl_canon] theorem xslotL3 (hh hs) : xsM.slice (Rect.unit (s := S1024x784) ![768, 0] S256x784.size hh) hs = xslot 3 := slice_congr xsM (by decide) _ _
/-- The body's name of a slot for products is `oslot`. -/
@[sl_canon] theorem oslotL0 (hh hs) : osM.slice (Rect.unit (s := S1024x784) ![0, 0] S256x784.size hh) hs = oslot 0 := slice_congr osM (by decide) _ _
/-- The body's name of a slot for products is `oslot`. -/
@[sl_canon] theorem oslotL1 (hh hs) : osM.slice (Rect.unit (s := S1024x784) ![256, 0] S256x784.size hh) hs = oslot 1 := slice_congr osM (by decide) _ _
/-- The body's name of a slot for products is `oslot`. -/
@[sl_canon] theorem oslotL2 (hh hs) : osM.slice (Rect.unit (s := S1024x784) ![512, 0] S256x784.size hh) hs = oslot 2 := slice_congr osM (by decide) _ _
/-- The body's name of a slot for products is `oslot`. -/
@[sl_canon] theorem oslotL3 (hh hs) : osM.slice (Rect.unit (s := S1024x784) ![768, 0] S256x784.size hh) hs = oslot 3 := slice_congr osM (by decide) _ _
/-- The body's name of an input cell is that of the block. -/
@[sl_canon] theorem icellL0 (hh) : (cc0_scratch3.slice (Rect.unit (s := S4) ![0] S1.size hh)).squeeze S_ squeezes_S1_S_ = icell 0 := cell_congr _ (by decide) _
/-- The body's name of an input cell is that of the block. -/
@[sl_canon] theorem icellL1 (hh) : (cc0_scratch3.slice (Rect.unit (s := S4) ![1] S1.size hh)).squeeze S_ squeezes_S1_S_ = icell 1 := cell_congr _ (by decide) _
/-- The body's name of an input cell is that of the block. -/
@[sl_canon] theorem icellL2 (hh) : (cc0_scratch3.slice (Rect.unit (s := S4) ![2] S1.size hh)).squeeze S_ squeezes_S1_S_ = icell 2 := cell_congr _ (by decide) _
/-- The body's name of an input cell is that of the block. -/
@[sl_canon] theorem icellL3 (hh) : (cc0_scratch3.slice (Rect.unit (s := S4) ![3] S1.size hh)).squeeze S_ squeezes_S1_S_ = icell 3 := cell_congr _ (by decide) _
/-- The body's name of an output cell is that of the block. -/
@[sl_canon] theorem ocellL0 (hh) : (cc0_scratch4.slice (Rect.unit (s := S4) ![0] S1.size hh)).squeeze S_ squeezes_S1_S_ = ocell 0 := cell_congr _ (by decide) _
/-- The body's name of an output cell is that of the block. -/
@[sl_canon] theorem ocellL1 (hh) : (cc0_scratch4.slice (Rect.unit (s := S4) ![1] S1.size hh)).squeeze S_ squeezes_S1_S_ = ocell 1 := cell_congr _ (by decide) _
/-- The body's name of an output cell is that of the block. -/
@[sl_canon] theorem ocellL2 (hh) : (cc0_scratch4.slice (Rect.unit (s := S4) ![2] S1.size hh)).squeeze S_ squeezes_S1_S_ = ocell 2 := cell_congr _ (by decide) _
/-- The body's name of an output cell is that of the block. -/
@[sl_canon] theorem ocellL3 (hh) : (cc0_scratch4.slice (Rect.unit (s := S4) ![3] S1.size hh)).squeeze S_ squeezes_S1_S_ = ocell 3 := cell_congr _ (by decide) _

/-! ## The pieces the body holds -/

section Pieces
variable (c : Dev nD)

/-- A row block of a buffer held at contents `f`. -/
abbrev blkP {sp : Space} (M : Memref sig .tc sp S256x784 .f32) (f : Buf (Elt F) (M.view.loc (c : Thread nD τ))) : sProp 𝕄 :=
  M.view.loc (c : Thread nD τ) ↦[M.view.set]{fullShare} f
abbrev icellP (b : Fin 4) : sProp 𝕄 := semVal ((c : Thread nD τ), SemLoc.dma (icell b).sem) 0
abbrev ocellP (b : Fin 4) : sProp 𝕄 := semVal ((c : Thread nD τ), SemLoc.dma (ocell b).sem) 0

end Pieces

/-! ## The run -/

abbrev XBuf (c : Dev nD) : Type := Buf (Elt F) (xM.view.loc (c : Thread nD τ))

/-- The flattened first coordinate of the positions. -/
def posRow0 (v16 : Vec F S28x28x1 .f32) : FVec F S1x784 .f32 := k0_pay18 (k0_pay2 v16) (k0_pay3 v16) (k0_pay4 v16) (k0_pay5 v16) (k0_pay6 v16) (k0_pay7 v16) (k0_pay8 v16) (k0_pay9 v16) (k0_pay10 v16) (k0_pay11 v16) (k0_pay12 v16) (k0_pay13 v16) (k0_pay14 v16) (k0_pay15 v16) (k0_pay16 v16) (k0_pay17 v16)
/-- The flattened weights, not below zero. -/
def wRow (v78 : Vec F S28x28 .f32) : FVec F S1x784 .f32 := k0_pay29 v78 (k0_pay20 v78) (k0_pay21 v78) (k0_pay22 v78) (k0_pay23 v78) (k0_pay24 v78) (k0_pay25 v78) (k0_pay26 v78) (k0_pay27 v78) (k0_pay28 v78)
/-- The matrix the kernel builds, from the two coordinates of the positions and from the weights. -/
def matA (v16 v47 : Vec F S28x28x1 .f32) (v78 : Vec F S28x28 .f32) : FVec F S784x784 .f32 :=
  k0_pay33 (posRow0 v16) (k0_pay19 v47) (wRow v78) (k0_pay30 (posRow0 v16)) (k0_pay31 (k0_pay19 v47))
    (iota .tc S784x784 32 [0] iota_S784x784_d0_w32) (k0_pay32 (F := F)) 28#32 0#32
/-- The matrix, from what the two operands read. -/
def matOf (x0 : S28x28x2.Idx → Elt F .f32) (x1 : S28x28.Idx → Elt F .f32) : FVec F S784x784 .f32 :=
  matA (View.ld x0 (Rect.unit (s := S28x28x2) ![0, 0, 0] S28x28x1.size inb_S28x28x2_S28x28x1_0_0_0))
    (View.ld x0 (Rect.unit (s := S28x28x2) ![0, 0, 1] S28x28x1.size inb_S28x28x2_S28x28x1_0_0_1))
    (View.ld x1 (Rect.unit (s := S28x28) ![0, 0] S28x28.size inb_S28x28_S28x28_0_0))

/-- What a slot holding a whole written payload reads at the slot's own rectangle of the whole buffer. -/
private theorem readAt_slot {sp : Space} (M : Memref sig .tc sp S1024x784 .f32) {off : Fin 2 → Nat} {b : Fin 4} (e : off = rowOff b) (hh)
    (f : (M.slice (rowR b) (fun _ => rfl)).view.ty.Contents (Elt F)) (x : S256x784.Idx → Elt F .f32) :
    M.view.readAt (Elt F) (Rect.unit (s := S1024x784) off S256x784.size hh).toLoadRect
      ((M.slice (rowR b) (fun _ => rfl)).view.writes (Elt F) f [⟨Rect.whole S256x784, x⟩]) = x := by
  subst e
  exact View.read_writes_whole (M.slice (rowR b) (fun _ => rfl)).view f x

/-- What a slot reads after a whole write at the slot's rectangle of the whole buffer: the payload. -/
private theorem read_oslot {sp : Space} (M : Memref sig .tc sp S1024x784 .f32) {off : Fin 2 → Nat} {b : Fin 4} (e : off = rowOff b) (hh)
    (f : (M.access (Rect.unit (s := S1024x784) off S256x784.size hh)).ty.Contents (Elt F)) (x : S256x784.Idx → Elt F .f32) :
    (M.slice (rowR b) (fun _ => rfl)).view.read (Elt F)
      ((M.access (Rect.unit (s := S1024x784) off S256x784.size hh)).write (Elt F) f x Finset.univ) = x :=
  Memref.read_slice_write M hh e _ f x

set_option backward.proofsInPublic true in
/-- The body from the eight block pieces, the sixteen slots and the eight cells at zero runs to its end: each block of
    the result reads the block of the input times the matrix, everything else is as it was up to contents. -/
theorem bodyRun (c : Dev nD) (arg0 : Memref sig .tc .vmem S28x28x2 .f32) (harg0 : arg0.IsWhole)
    (arg1 : Memref sig .tc .vmem S28x28 .f32) (harg1 : arg1.IsWhole)
    (f0 : Buf (Elt F) (arg0.view.loc (c : Thread nD τ))) (f1 : Buf (Elt F) (arg1.view.loc (c : Thread nD τ)))
    (X : XBuf (F := F) c)
      (W : Waits sig Unit) (K : PUnit → sProp 𝕄) :
        iprop((arg0.view.loc (c : Thread nD τ) ↦[arg0.view.set]{fullShare} f0)
            ∗ (arg1.view.loc (c : Thread nD τ) ↦[arg1.view.set]{fullShare} f1)
            ∗ (∃ f, aM.view.loc (c : Thread nD τ) ↦[aM.view.set]{fullShare} f)
            ∗ blkP c (xblk 0) X ∗ blkP c (xblk 1) X ∗ blkP c (xblk 2) X ∗ blkP c (xblk 3) X
            ∗ (∃ f, blkP c (yblk 0) f) ∗ (∃ f, blkP c (yblk 1) f) ∗ (∃ f, blkP c (yblk 2) f) ∗ (∃ f, blkP c (yblk 3) f)
            ∗ (∃ f, blkP c (xslot 0) f) ∗ (∃ f, blkP c (xslot 1) f) ∗ (∃ f, blkP c (xslot 2) f) ∗ (∃ f, blkP c (xslot 3) f)
            ∗ (∃ f, blkP c (oslot 0) f) ∗ (∃ f, blkP c (oslot 1) f) ∗ (∃ f, blkP c (oslot 2) f) ∗ (∃ f, blkP c (oslot 3) f)
            ∗ icellP c 0 ∗ icellP c 1 ∗ icellP c 2 ∗ icellP c 3
            ∗ ocellP c 0 ∗ ocellP c 1 ∗ ocellP c 2 ∗ ocellP c 3
            ∗ owes (c : Thread nD τ) 0 W
            ∗ (iprop((arg0.view.loc (c : Thread nD τ) ↦[arg0.view.set]{fullShare} f0)
                ∗ (arg1.view.loc (c : Thread nD τ) ↦[arg1.view.set]{fullShare} f1)
                ∗ (∃ f, aM.view.loc (c : Thread nD τ) ↦[aM.view.set]{fullShare} f)
                ∗ blkP c (xblk 0) X ∗ blkP c (xblk 1) X ∗ blkP c (xblk 2) X ∗ blkP c (xblk 3) X
                ∗ (∃ f, ⌜(yblk 0).view.read (Elt F) f = k0_pay34 ((xblk 0).view.read (Elt F) X) (matOf (arg0.view.read (Elt F) f0) (arg1.view.read (Elt F) f1))⌝
                    ∗ blkP c (yblk 0) f)
                ∗ (∃ f, ⌜(yblk 1).view.read (Elt F) f = k0_pay34 ((xblk 1).view.read (Elt F) X) (matOf (arg0.view.read (Elt F) f0) (arg1.view.read (Elt F) f1))⌝
                    ∗ blkP c (yblk 1) f)
                ∗ (∃ f, ⌜(yblk 2).view.read (Elt F) f = k0_pay34 ((xblk 2).view.read (Elt F) X) (matOf (arg0.view.read (Elt F) f0) (arg1.view.read (Elt F) f1))⌝
                    ∗ blkP c (yblk 2) f)
                ∗ (∃ f, ⌜(yblk 3).view.read (Elt F) f = k0_pay34 ((xblk 3).view.read (Elt F) X) (matOf (arg0.view.read (Elt F) f0) (arg1.view.read (Elt F) f1))⌝
                    ∗ blkP c (yblk 3) f)
                ∗ (∃ f, blkP c (xslot 0) f) ∗ (∃ f, blkP c (xslot 1) f) ∗ (∃ f, blkP c (xslot 2) f) ∗ (∃ f, blkP c (xslot 3) f)
                ∗ (∃ f, blkP c (oslot 0) f) ∗ (∃ f, blkP c (oslot 1) f) ∗ (∃ f, blkP c (oslot 2) f) ∗ (∃ f, blkP c (oslot 3) f)
                ∗ icellP c 0 ∗ icellP c 1 ∗ icellP c 2 ∗ icellP c 3
                ∗ ocellP c 0 ∗ ocellP c 1 ∗ ocellP c 2 ∗ ocellP c 3
                ∗ (∃ W', owes (c : Thread nD τ) 0 W')) -∗ K ⟨⟩))
          ⊢ wp frame (wpE (defs₀ (F := F)) Variants.none c none) Set.univ
              (cc0__axs_kernel arg0 harg0 arg1 harg1 xM (Memref.isWhole_whole _) yM (Memref.isWhole_whole _)
                aM (Memref.isWhole_whole _) xsM (Memref.isWhole_whole _) osM (Memref.isWhole_whole _) cc0_scratch3 cc0_scratch4) K := by
  simp only [cc0__axs_kernel_eq_skeleton]; unfold cc0__axs_kernel_skel
  iintro ⟨Ha0, Ha1, ⟨%fa, HA⟩, Hx0, Hx1, Hx2, Hx3, ⟨%fy0, Hy0⟩, ⟨%fy1, Hy1⟩, ⟨%fy2, Hy2⟩, ⟨%fy3, Hy3⟩,
    ⟨%fs0, Hs0⟩, ⟨%fs1, Hs1⟩, ⟨%fs2, Hs2⟩, ⟨%fs3, Hs3⟩, ⟨%fo0, Ho0⟩, ⟨%fo1, Ho1⟩, ⟨%fo2, Ho2⟩, ⟨%fo3, Ho3⟩,
    Hi0, Hi1, Hi2, Hi3, Hq0, Hq1, Hq2, Hq3, HW, Hk⟩
  sl_exec
  sl_step
  sl_exec
  sl_step
  iapply Hk
  isplitl [Ha0]
  · iexact Ha0
  isplitl [Ha1]
  · iexact Ha1
  isplitl [HA]
  · iexists _; iexact HA
  isplitl [Hx0]
  · iexact Hx0
  isplitl [Hx1]
  · iexact Hx1
  isplitl [Hx2]
  · iexact Hx2
  isplitl [Hx3]
  · iexact Hx3
  isplitl [Hy0]
  · iexists _
    isplitr
    rotate_left
    · iexact Hy0
    · ipureintro
      rw [View.read_writes_whole]
      refine (read_oslot osM (b := 0) (by decide) _ _ _).trans ?_
      exact congr (congrArg k0_pay34 (readAt_slot xsM (b := 0) (by decide) _ _ _))
        ((View.readCov_full aM.view _ _ _ _).trans rfl)
  isplitl [Hy1]
  · iexists _
    isplitr
    rotate_left
    · iexact Hy1
    · ipureintro
      rw [View.read_writes_whole]
      refine (read_oslot osM (b := 1) (by decide) _ _ _).trans ?_
      exact congr (congrArg k0_pay34 (readAt_slot xsM (b := 1) (by decide) _ _ _))
        ((View.readCov_full aM.view _ _ _ _).trans rfl)
  isplitl [Hy2]
  · iexists _
    isplitr
    rotate_left
    · iexact Hy2
    · ipureintro
      rw [View.read_writes_whole]
      refine (read_oslot osM (b := 2) (by decide) _ _ _).trans ?_
      exact congr (congrArg k0_pay34 (readAt_slot xsM (b := 2) (by decide) _ _ _))
        ((View.readCov_full aM.view _ _ _ _).trans rfl)
  isplitl [Hy3]
  · iexists _
    isplitr
    rotate_left
    · iexact Hy3
    · ipureintro
      rw [View.read_writes_whole]
      refine (read_oslot osM (b := 3) (by decide) _ _ _).trans ?_
      exact congr (congrArg k0_pay34 (readAt_slot xsM (b := 3) (by decide) _ _ _))
        ((View.readCov_full aM.view _ _ _ _).trans rfl)
  isplitl [Hs0]
  · iexists _; iexact Hs0
  isplitl [Hs1]
  · iexists _; iexact Hs1
  isplitl [Hs2]
  · iexists _; iexact Hs2
  isplitl [Hs3]
  · iexists _; iexact Hs3
  isplitl [Ho0]
  · iexists _; iexact Ho0
  isplitl [Ho1]
  · iexists _; iexact Ho1
  isplitl [Ho2]
  · iexists _; iexact Ho2
  isplitl [Ho3]
  · iexists _; iexact Ho3
  isplitl [Hi0]
  · iexact Hi0
  isplitl [Hi1]
  · iexact Hi1
  isplitl [Hi2]
  · iexact Hi2
  isplitl [Hi3]
  · iexact Hi3
  isplitl [Hq0]
  · iexact Hq0
  isplitl [Hq1]
  · iexact Hq1
  isplitl [Hq2]
  · iexact Hq2
  isplitl [Hq3]
  · iexact Hq3
  iexists _; iexact HW

end Cert.KernelIdeal.Hand
-- ==== Proof.IdealFrame.lean ====
module

public import proofs.«01_k».proof.Proof.IdealBody
public import Idealize.ShloMosaic.Lib.Ring.AtN
public import Idealize.ShloMosaic.Lib.ViewIndex

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## A buffer of 1024 rows held as its four row blocks -/

/-- The elements of row block `b` of a memref of 1024 rows. -/
def rowSet {sp : Space} (M : Memref sig .tc sp S1024x784 .f32) (b : Fin 4) : Finset M.view.ty.Idx := (M.view.slice (rowR b)).set

/-- Different blocks of rows share no element. -/
theorem rows_disjoint {sp : Space} (M : Memref sig .tc sp S1024x784 .f32) (b b' : Fin 4) (h : b ≠ b') :
    Disjoint (rowSet M b) (rowSet M b') :=
  View.disjoint_slice (v := M.view)
    (Ring.lead_disjoint (s := S1024x784) (0 : Fin 2) 256 rowOff S256x784.size rowOff_inb (fun b => rfl) rfl b b' h)

/-- The blocks of rows make up the array. -/
theorem rows_cover {sp : Space} (M : Memref sig .tc sp S1024x784 .f32) (hM : M.IsWhole) :
    Finset.univ.biUnion (rowSet M) = Finset.univ := by
  ext i
  simp only [Finset.mem_biUnion, Finset.mem_univ, true_and, iff_true]
  have hi : i ∈ M.view.set := by rw [hM.set_eq_univ]; exact Finset.mem_univ _
  obtain ⟨x, -, rfl⟩ := Finset.mem_map.mp hi
  have hx : x ∈ Finset.univ.biUnion (fun b : Fin 4 => (rowR b).set) := by
    rw [Ring.lead_cover (s := S1024x784) (0 : Fin 2) 256 rowOff S256x784.size rowOff_inb (fun b => rfl)
      (fun b a ha => by fin_cases a <;> first | exact absurd rfl ha | rfl) rfl
      (fun a ha => by fin_cases a <;> first | exact absurd rfl ha | rfl) rfl]
    exact Finset.mem_univ _
  obtain ⟨b, -, hb⟩ := Finset.mem_biUnion.mp hx
  refine ⟨b, ?_⟩
  unfold rowSet
  rw [View.set_slice]
  exact Finset.mem_map_of_mem _ hb

section Split
variable (c : Dev nD)

/-- A whole memref of 1024 rows held at contents `f` is its four row blocks held at `f`. -/
theorem rows_split {sp : Space} (M : Memref sig .tc sp S1024x784 .f32) (hM : M.IsWhole) (f : Buf (Elt F) (M.view.loc (c : Thread nD τ))) :
    (M.view.loc (c : Thread nD τ) ↦{fullShare} f : sProp 𝕄)
      = iprop((M.view.loc (c : Thread nD τ) ↦[rowSet M 0]{fullShare} f) ∗ (M.view.loc (c : Thread nD τ) ↦[rowSet M 1]{fullShare} f)
          ∗ (M.view.loc (c : Thread nD τ) ↦[rowSet M 2]{fullShare} f) ∗ (M.view.loc (c : Thread nD τ) ↦[rowSet M 3]{fullShare} f)) :=
  (Ring.pointsTo_blocks (ℓ := M.view.loc (c : Thread nD τ)) (rowSet M) (rows_disjoint M) (rows_cover M hM) f).trans (Ring.bigSep_fin4 _)
/-- Its four row blocks, each held at some contents, are the whole held at some contents. -/
theorem rows_join {sp : Space} (M : Memref sig .tc sp S1024x784 .f32) (hM : M.IsWhole) :
    iprop((∃ f, M.view.loc (c : Thread nD τ) ↦[rowSet M 0]{fullShare} f) ∗ (∃ f, M.view.loc (c : Thread nD τ) ↦[rowSet M 1]{fullShare} f)
        ∗ (∃ f, M.view.loc (c : Thread nD τ) ↦[rowSet M 2]{fullShare} f) ∗ (∃ f, M.view.loc (c : Thread nD τ) ↦[rowSet M 3]{fullShare} f))
      ⊢ (iprop(∃ g, M.view.loc (c : Thread nD τ) ↦{fullShare} g) : sProp 𝕄) :=
  (Entails.of_eq (Ring.bigSep_fin4 (fun b : Fin 4 =>
      (iprop(∃ f, M.view.loc (c : Thread nD τ) ↦[rowSet M b]{fullShare} f) : sProp 𝕄))).symm).trans
    (Ring.pointsTo_blocks_join_exists (ℓ := M.view.loc (c : Thread nD τ)) (rowSet M) (rows_disjoint M) (rows_cover M hM)
      (M.view.junk (Val := Elt F)))

/-- The images are their four blocks. -/
theorem x_split (f : Buf (Elt F) ((c : Thread nD τ).loc main_v0)) :
    (((c : Thread nD τ).loc main_v0) ↦{fullShare} f : sProp 𝕄)
      = iprop(blkP c (xblk 0) f ∗ blkP c (xblk 1) f ∗ blkP c (xblk 2) f ∗ blkP c (xblk 3) f) :=
  rows_split c xM (Memref.isWhole_whole _) f
/-- The result is its four blocks. -/
theorem y_split (f : Buf (Elt F) ((c : Thread nD τ).loc main_v1)) :
    (((c : Thread nD τ).loc main_v1) ↦{fullShare} f : sProp 𝕄)
      = iprop(blkP c (yblk 0) f ∗ blkP c (yblk 1) f ∗ blkP c (yblk 2) f ∗ blkP c (yblk 3) f) :=
  rows_split c yM (Memref.isWhole_whole _) f
/-- The staged images are their four slots. -/
theorem xs_split (f : Buf (Elt F) ((c : Thread nD τ).loc cc0_scratch1)) :
    (((c : Thread nD τ).loc cc0_scratch1) ↦{fullShare} f : sProp 𝕄)
      = iprop(blkP c (xslot 0) f ∗ blkP c (xslot 1) f ∗ blkP c (xslot 2) f ∗ blkP c (xslot 3) f) :=
  rows_split c xsM (Memref.isWhole_whole _) f
/-- The staged products are their four slots. -/
theorem os_split (f : Buf (Elt F) ((c : Thread nD τ).loc cc0_scratch2)) :
    (((c : Thread nD τ).loc cc0_scratch2) ↦{fullShare} f : sProp 𝕄)
      = iprop(blkP c (oslot 0) f ∗ blkP c (oslot 1) f ∗ blkP c (oslot 2) f ∗ blkP c (oslot 3) f) :=
  rows_split c osM (Memref.isWhole_whole _) f
/-- Four slots make up the staged images. -/
theorem xs_join :
    iprop((∃ f, blkP c (xslot 0) f) ∗ (∃ f, blkP c (xslot 1) f) ∗ (∃ f, blkP c (xslot 2) f) ∗ (∃ f, blkP c (xslot 3) f))
      ⊢ (iprop(∃ g : Buf (Elt F) ((c : Thread nD τ).loc cc0_scratch1), ((c : Thread nD τ).loc cc0_scratch1) ↦{fullShare} g) : sProp 𝕄) :=
  rows_join c xsM (Memref.isWhole_whole _)
/-- Four slots make up the staged products. -/
theorem os_join :
    iprop((∃ f, blkP c (oslot 0) f) ∗ (∃ f, blkP c (oslot 1) f) ∗ (∃ f, blkP c (oslot 2) f) ∗ (∃ f, blkP c (oslot 3) f))
      ⊢ (iprop(∃ g : Buf (Elt F) ((c : Thread nD τ).loc cc0_scratch2), ((c : Thread nD τ).loc cc0_scratch2) ↦{fullShare} g) : sProp 𝕄) :=
  rows_join c osM (Memref.isWhole_whole _)

/-- Block `b` of the result at contents that read `w` is block `b` at any other contents that read `w`. -/
theorem blk_congr {sp : Space} (M : Memref sig .tc sp S256x784 .f32) (f g : Buf (Elt F) (M.view.loc (c : Thread nD τ)))
    (h : M.view.read (Elt F) f = M.view.read (Elt F) g) : (blkP c M f : sProp 𝕄) = blkP c M g :=
  pointsTo_congr fun i hi => by
    obtain ⟨x, -, rfl⟩ := Finset.mem_map.mp hi
    exact View.eq_of_read_eq (congrFun h x)

end Split

/-! ## The result the four blocks make up -/

/-- Block `b` of the result. -/
def outBlk (c : Dev nD) (b : Fin 4) : FVec F S256x784 .f32 :=
  k0_pay34 ((xblk b).view.read (Elt F) (V m c main_v0)) (matOf (iblk m c 0 t0_0) (iblk m c 1 t0_0))

/-- The whole result, row by row. -/
def outAll (c : Dev nD) : Buf (Elt F) ((c : Thread nD τ).loc main_v1) := fun i : S1024x784.Idx =>
  outBlk m c ⟨(i (0 : Fin 2)).val / 256, by have : (i (0 : Fin 2)).val < 1024 := (i (0 : Fin 2)).isLt; omega⟩
    (fun a : Fin 2 => match a with
      | 0 => (⟨(i (0 : Fin 2)).val % 256, Nat.mod_lt _ (by decide)⟩ : Fin 256)
      | 1 => (i (1 : Fin 2)))

/-- A block of the whole result reads as that block. -/
theorem read_outAll (c : Dev nD) (b : Fin 4) : (yblk b).view.read (Elt F) (outAll m c) = outBlk m c b := by
  funext x
  show outAll m c ((rowR b).emb x) = outBlk m c b x
  have h0 : (((rowR b).emb x) (0 : Fin 2)).val = 256 * b.val + (x (0 : Fin 2)).val := by
    show 256 * b.val + 1 * (x (0 : Fin 2)).val = _; omega
  have h1 : (((rowR b).emb x) (1 : Fin 2)).val = (x (1 : Fin 2)).val := by
    show 0 + 1 * (x (1 : Fin 2)).val = _; omega
  have hx : (x (0 : Fin 2)).val < 256 := (x (0 : Fin 2)).isLt
  unfold outAll
  refine congr (congrArg (outBlk m c) (Fin.ext ?_)) (funext fun a => ?_)
  · show (((rowR b).emb x) (0 : Fin 2)).val / 256 = b.val; omega
  · match a with
    | 0 => exact Fin.ext (by show (((rowR b).emb x) (0 : Fin 2)).val % 256 = (x (0 : Fin 2)).val; omega)
    | 1 => exact Fin.ext h1

/-- What the region leaves in the buffers it writes. -/
def G (c : Dev nD) : (b : Ref sig .tc) → Buf (Elt F) ((c : Thread nD τ).loc b) := Function.update (V m c) main_v1 (outAll m c)
/-- The region leaves the whole result in its output. -/
theorem G_v1 (c : Dev nD) : G m c main_v1 = outAll m c := Function.update_self ..

/-! ## The proof data and the body obligation -/

abbrev osem0 : Fin 8 → SemLoc sig := fun j =>
  (![SemLoc.dma 2, SemLoc.dma 3, SemLoc.dma 4, SemLoc.dma 5, SemLoc.dma 6, SemLoc.dma 7, SemLoc.dma 8, SemLoc.dma 9] : Fin 8 → SemLoc sig) j
/-- The kernel's own semaphores are as declared. -/
theorem ownSemFacts0 : Pipeline.OwnSemFacts spec0 osem0 := by decide
/-- The kernel's own semaphores, cell by cell. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(icellP c 0 ∗ icellP c 1 ∗ icellP c 2 ∗ icellP c 3 ∗ ocellP c 0 ∗ ocellP c 1 ∗ ocellP c 2 ∗ ocellP c 3) := by
  rw [Pipeline.ownSems0_eq_of_list c osem0 [0, 1, 2, 3, 4, 5, 6, 7] (by decide) (by decide)]; rfl
def H0 : Finset (Ref sig .tc) := {main_v0}
def R0 : Finset (Ref sig .tc) := {main_v1}
/-- The arrays left in HBM are not staged. -/
theorem H0_sub : H0 ⊆ Pipeline.restRefs sig spec0 := by decide
/-- The result's array is neither staged nor read. -/
theorem R0_sub : R0 ⊆ Pipeline.restRefs sig spec0 \ H0 := by decide

/-- What is held between points, spelled out. -/
theorem Phi_eq (c : Dev nD) (g : (c : Dev nD) → (b : Ref sig .tc) → Buf (Elt F) ((c : Thread nD τ).loc b)) :
    (Pipeline.ΦDRV osem0 spec0 H0 R0 (V m) g c : sProp 𝕄)
      = iprop(iprop((∃ f : Buf (Elt F) ((c : Thread nD τ).loc cc0_scratch0), ((c : Thread nD τ).loc cc0_scratch0) ↦{fullShare} f)
              ∗ (∃ f : Buf (Elt F) ((c : Thread nD τ).loc cc0_scratch1), ((c : Thread nD τ).loc cc0_scratch1) ↦{fullShare} f)
              ∗ (∃ f : Buf (Elt F) ((c : Thread nD τ).loc cc0_scratch2), ((c : Thread nD τ).loc cc0_scratch2) ↦{fullShare} f))
          ∗ iprop(icellP c 0 ∗ icellP c 1 ∗ icellP c 2 ∗ icellP c 3 ∗ ocellP c 0 ∗ ocellP c 1 ∗ ocellP c 2 ∗ ocellP c 3)
          ∗ (((c : Thread nD τ).loc main_v0) ↦{fullShare} V m c main_v0)
          ∗ (((c : Thread nD τ).loc main_v1) ↦{fullShare} g c main_v1)) := by
  unfold Pipeline.ΦDRV
  rw [scopedRest0_eq, ownSems00_eq, BI.bigSep_eq_bigSepL_of_eq [main_v0] (by decide) (by decide),
    BI.bigSep_eq_bigSepL_of_eq [main_v1] (by decide) (by decide)]
  rfl

/-- What the written buffers hold before point `k`. -/
def gAt (k : ℕ) (c : Dev nD) : (b : Ref sig .tc) → Buf (Elt F) ((c : Thread nD τ).loc b) := if k = 0 then V m c else G m c

/-- The proof data of the one region on core `c`: the staged operands stay what they were, the result's buffer goes from
    what the launch left there to `outAll`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := Pipeline.ΦDRV osem0 spec0 H0 R0 (V m) (gAt m t.val) c
  q _ := fullShare
  owed _ := 0

/-- The staged arrays are as the region finds them. -/
theorem A_eq (c : Dev nD) (w : Fin cfg0.W) : (dats m 0 c).A w = V m c (Pipeline.arrRef spec0 w) := by dsimp only [dats]
/-- The first staged operand holds its block. -/
theorem before0_0 (c : Dev nD) (t : Fin cfg0.N) (d) : (dats m 0 c).before 0 t d = iblk m c 0 t :=
  ((dats m 0 c).before_in_eq_fetched 0 rfl (fun _ => rfl) (fun _ _ _ => rfl) (fun t => by
      show iblk m c 0 t = _; unfold Dat.blockOf iblk; rw [A_eq]; try rfl) t d).trans
    (by unfold Dat.fetched Dat.blockOf iblk; rw [A_eq]; try rfl)
/-- The second staged operand holds its block. -/
theorem before0_1 (c : Dev nD) (t : Fin cfg0.N) (d) : (dats m 0 c).before 1 t d = iblk m c 1 t :=
  ((dats m 0 c).before_in_eq_fetched 1 rfl (fun _ => rfl) (fun _ _ _ => rfl) (fun t => by
      show iblk m c 1 t = _; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body takes what it is given to the blocks of the result. -/
theorem sound_body (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost
  simp only [before0_0, before0_1]
  rw [show (dats m 0 c).after 0 t0_0 = iblk m c 0 t0_0 from rfl, show (dats m 0 c).after 1 t0_0 = iblk m c 1 t0_0 from rfl]
  rw [show (dats m 0 c).Φ t0_0.castSucc = Pipeline.ΦDRV osem0 spec0 H0 R0 (V m) (gAt m 0) c from rfl,
    show (dats m 0 c).Φ t0_0.succ = Pipeline.ΦDRV osem0 spec0 H0 R0 (V m) (gAt m 1) c from rfl, Phi_eq, Phi_eq]
  rw [show gAt m 1 c main_v1 = outAll m c from G_v1 m c, x_split, y_split, y_split]
  unfold Dat.owesAt Pipeline.owesWithin
  rw [show (dats m 0 c).owed t0_0.castSucc = 0 from rfl, show (dats m 0 c).owed t0_0.succ = 0 from rfl]
  unfold owns
  iintro ⟨⟨⟨⟨%fa, HA⟩, ⟨%fx, HX⟩, ⟨%fo, HO⟩⟩, ⟨Hi0, Hi1, Hi2, Hi3, Hq0, Hq1, Hq2, Hq3⟩, ⟨Hx0, Hx1, Hx2, Hx3⟩, ⟨Hy0, Hy1, Hy2, Hy3⟩⟩,
    ⟨%W, -, HW⟩, ⟨%d0, %f0, %hf0, Hs0⟩, ⟨%d1, %f1, %hf1, Hs1⟩⟩
  ihave HX' := (Entails.of_eq (xs_split c fx)) $$ HX
  icases HX' with ⟨HX0, HX1, HX2, HX3⟩
  ihave HO' := (Entails.of_eq (os_split c fo)) $$ HO
  icases HO' with ⟨HO0, HO1, HO2, HO3⟩
  iapply (bodyRun c (st0_0 t0_0) (hstage0_0 0) (st0_1 t0_0) (hstage0_1 0) f0 f1 (V m c main_v0) W _)
  isplitl [Hs0]; · iexact Hs0
  isplitl [Hs1]; · iexact Hs1
  isplitl [HA]
  · iexists fa
    rw [show aM.view.set = Finset.univ from View.set_whole _]; iexact HA
  isplitl [Hx0]; · iexact Hx0
  isplitl [Hx1]; · iexact Hx1
  isplitl [Hx2]; · iexact Hx2
  isplitl [Hx3]; · iexact Hx3
  isplitl [Hy0]; · iexists _; iexact Hy0
  isplitl [Hy1]; · iexists _; iexact Hy1
  isplitl [Hy2]; · iexists _; iexact Hy2
  isplitl [Hy3]; · iexists _; iexact Hy3
  isplitl [HX0]; · iexists _; iexact HX0
  isplitl [HX1]; · iexists _; iexact HX1
  isplitl [HX2]; · iexists _; iexact HX2
  isplitl [HX3]; · iexists _; iexact HX3
  isplitl [HO0]; · iexists _; iexact HO0
  isplitl [HO1]; · iexists _; iexact HO1
  isplitl [HO2]; · iexists _; iexact HO2
  isplitl [HO3]; · iexists _; iexact HO3
  isplitl [Hi0]; · iexact Hi0
  isplitl [Hi1]; · iexact Hi1
  isplitl [Hi2]; · iexact Hi2
  isplitl [Hi3]; · iexact Hi3
  isplitl [Hq0]; · iexact Hq0
  isplitl [Hq1]; · iexact Hq1
  isplitl [Hq2]; · iexact Hq2
  isplitl [Hq3]; · iexact Hq3
  isplitl [HW]; · iexact HW
  iintro ⟨Hs0, Hs1, ⟨%fa, HA⟩, Hx0, Hx1, Hx2, Hx3, ⟨%g0, %h0, Hy0⟩, ⟨%g1, %h1, Hy1⟩, ⟨%g2, %h2, Hy2⟩, ⟨%g3, %h3, Hy3⟩,
    HX0, HX1, HX2, HX3, HO0, HO1, HO2, HO3, Hi0, Hi1, Hi2, Hi3, Hq0, Hq1, Hq2, Hq3, ⟨%W', HW⟩⟩
  have hb : ∀ (b : Fin 4) (g : Buf (Elt F) ((yblk b).view.loc (c : Thread nD τ))),
      (yblk b).view.read (Elt F) g = k0_pay34 ((xblk b).view.read (Elt F) (V m c main_v0))
        (matOf ((st0_0 t0_0).view.read (Elt F) f0) ((st0_1 t0_0).view.read (Elt F) f1)) →
      (blkP c (yblk b) g : sProp 𝕄) = blkP c (yblk b) (outAll m c) := fun b g h =>
    blk_congr c (yblk b) g (outAll m c) (by
      rw [read_outAll, h]; unfold outBlk; rw [hf0, hf1])
  ihave Hy0' := (Entails.of_eq (hb 0 g0 h0)) $$ Hy0
  ihave Hy1' := (Entails.of_eq (hb 1 g1 h1)) $$ Hy1
  ihave Hy2' := (Entails.of_eq (hb 2 g2 h2)) $$ Hy2
  ihave Hy3' := (Entails.of_eq (hb 3 g3 h3)) $$ Hy3
  isplitl [HA Hx0 Hx1 Hx2 Hx3 Hy0' Hy1' Hy2' Hy3' HX0 HX1 HX2 HX3 HO0 HO1 HO2 HO3 Hi0 Hi1 Hi2 Hi3 Hq0 Hq1 Hq2 Hq3]
  · isplitl [HA HX0 HX1 HX2 HX3 HO0 HO1 HO2 HO3]
    · isplitl [HA]
      · iexists fa
        rw [show aM.view.set = Finset.univ from View.set_whole _]; iexact HA
      isplitl [HX0 HX1 HX2 HX3]
      · iapply (xs_join c)
        isplitl [HX0]; · iexact HX0
        isplitl [HX1]; · iexact HX1
        isplitl [HX2]; · iexact HX2
        iexact HX3
      · iapply (os_join c)
        isplitl [HO0]; · iexact HO0
        isplitl [HO1]; · iexact HO1
        isplitl [HO2]; · iexact HO2
        iexact HO3
    isplitl [Hi0 Hi1 Hi2 Hi3 Hq0 Hq1 Hq2 Hq3]
    · isplitl [Hi0]; · iexact Hi0
      isplitl [Hi1]; · iexact Hi1
      isplitl [Hi2]; · iexact Hi2
      isplitl [Hi3]; · iexact Hi3
      isplitl [Hq0]; · iexact Hq0
      isplitl [Hq1]; · iexact Hq1
      isplitl [Hq2]; · iexact Hq2
      iexact Hq3
    isplitl [Hx0 Hx1 Hx2 Hx3]
    · isplitl [Hx0]; · iexact Hx0
      isplitl [Hx1]; · iexact Hx1
      isplitl [Hx2]; · iexact Hx2
      iexact Hx3
    isplitl [Hy0']; · iexact Hy0'
    isplitl [Hy1']; · iexact Hy1'
    isplitl [Hy2']; · iexact Hy2'
    iexact Hy3'
  isplitl [HW]
  · iexists W'; isplitr; · ipureintro; exact fun _ _ => Or.inl trivial
    iexact HW
  isplitl [Hs0]
  · iexists f0; isplitr; · ipureintro; exact hf0
    iexact Hs0
  · iexists f1; isplitr; · ipureintro; exact hf1
    iexact Hs1

/-- The launch's row of the table of functions is the body. -/
theorem defs₀_row (t : Fin cfg0.N) :
    defs₀ (F := F) .tc cfg0.body (cfg0.bodyArgs t (cfg0.slots t)) = bodyAt0 t := by
  unfold defs₀; rw [Defs.onTc_tc]

/-- The body meets the launch's obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The host program round the launch. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the buffers hold after the last host line. -/
def endV (c : Dev nD) : Valuation τ sig (Elt F) :=
  StableHlo.after (List.flatten [hostOps1]) (Pipeline.withArrays spec0 c (Pipeline.withR (V0 m c) R0 c (G m c)) fun w => (dats m 0 c).arrAt w cfg0.N)

set_option backward.isDefEq.respectTransparency.types false in
/-- The program runs to its end; a buffer the pipeline does not stage ends as `endV` says, a staged array as its data says,
    and every semaphore counter is zero. -/
theorem run_main : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = endV m c (Proc.devRef .tc b))
    ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmainD m Variants.none) (hA := A_eq m)
    (hin := fun _ => .rfl) (hout := fun _ => .rfl) (hQ' := fun _ h => h)

/-- The last host line leaves every buffer but `main_v2` alone. -/
private theorem endV_of_ne (c : Dev nD) (b : Ref sig .tc) (hb : b ≠ main_v2) :
    endV m c (Proc.devRef .tc b)
      = Pipeline.withArrays spec0 c (Pipeline.withR (V0 m c) R0 c (G m c)) (fun w => (dats m 0 c).arrAt w cfg0.N) (Proc.devRef .tc b) := by
  unfold endV
  refine StableHlo.after_of_forall_not_mem (b := Proc.devRef .tc b) _ _ (List.forall_iff_forall_mem.mp ?_)
  simp only [hostOps1, List.flatten_cons, List.flatten_nil, List.append_nil, List.cons_append, List.nil_append, List.Forall,
    StableHlo.reshape_writes, Finset.mem_singleton]
  exact StableHlo.devRef_ne_of_ne hb

/-- The host operations leave the images as they were. -/
theorem endV_arg0 (c : Dev nD) : endV m c (Proc.devRef .tc main_arg0) = m ((c : Thread nD τ).loc main_arg0) := by
  rw [endV_of_ne m c main_arg0 (by decide),
    Pipeline.withArrays_of_ne _ c _ _ main_arg0 (by exact (by decide : ∀ w, Pipeline.arrRef spec0 w ≠ main_arg0)),
    Pipeline.withR_of_not_mem _ _ _ _ _ (by decide)]
  exact V_main_arg0 m c

/-- The kernel's result: `outAll` at the result's shape. -/
def resV (c : Dev nD) : Buf (Elt F) ((c.tc : Thread nD τ).loc main_v2) :=
  fun i => shapeCast S1024x1x28x28 (outAll m c) shapeCasts_S1024x784_S1024x1x28x28 i

/-- The last host operation leaves the reshaped result. -/
theorem endV_v2 (c : Dev nD) : endV m c (Proc.devRef .tc main_v2) = resV m c := by
  unfold endV
  simp only [hostOps1, List.flatten_cons, List.flatten_nil, List.append_nil, StableHlo.after_cons, StableHlo.after_nil]
  rw [StableHlo.reshape_result,
    Pipeline.withArrays_of_ne _ c _ _ main_v1 (by exact (by decide : ∀ w, Pipeline.arrRef spec0 w ≠ main_v1)),
    Pipeline.withR_of_mem _ _ _ _ _ (by decide), G_v1]
  rfl

/-- The kernel runs to its end from any memory: its result is `resV`, its arguments are unchanged and every semaphore
    counter is zero. -/
theorem run_value : θ_run defs (onTc (τ := τ) (main (F := F))) ⟨m, fun _ => 0, ρ⟩ (fun r => (∀ c : Dev nD,
      r.2.mem ((c.tc : Thread nD τ).loc main_v2) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_v2 (Pipeline.mem_restRefs_of main_v2 (by decide) (by decide))).trans (endV_v2 m c),
      ((h.1 c).2 main_arg0 (Pipeline.mem_restRefs_of main_arg0 (by decide) (by decide))).trans (endV_arg0 m c),
      ((h.1 c).1 0).trans (((dats m 0 c).arrAt_in 0 rfl _).trans ((A_eq m c 0).trans (V_main_arg1 m c))),
      ((h.1 c).1 1).trans (((dats m 0 c).arrAt_in 1 rfl _).trans ((A_eq m c 1).trans (V_main_arg2 m c)))⟩, h.2⟩) (run_main m ρ)

end Cert.KernelIdeal.Hand

end
-- ==== Proof.Pixels.lean ====
module

public import Idealize.ShloMosaic.PureOps.Ideal
public import Idealize.ShloMosaic.PureOps.Ideal.Laws
public import Mathlib.Tactic.Linarith
public import Mathlib.Tactic.NormNum

@[expose] public section

noncomputable section

namespace Cert.Pixels

open Idealize.ShloMosaic

/-- A position rounded to the nearest integer, ties to even. -/
def rnd (p : EReal) : EReal := Ideal.liftRound Ideal.roundHalfEven p

/-- Row or column `u` is within five halves of the rounded position. -/
def near (p : EReal) (u : ℕ) : Prop := max (((u : ℝ) : EReal) - rnd p) (-(((u : ℝ) : EReal) - rnd p)) < ((5 / 2 : ℝ) : EReal)

/-- Nearness is decidable, classically. -/
instance (p : EReal) (u : ℕ) : Decidable (near p u) := Classical.propDecidable _

/-- The cell at offset `o` from the rounded position, as a word. -/
def cell (p : EReal) (o : ℤ) : BitVec 32 := Ideal.fptosi 32 (rnd p + ((o : ℝ) : EReal))

/-- The weight by the distance of pixel `(u, v)` from the position. -/
def wt (p0 p1 : EReal) (u v : ℕ) : EReal :=
  Ideal.exp (Ideal.ofBits .f32 0xBF000000#32 * ((((u : ℝ) : EReal) - p0) * (((u : ℝ) : EReal) - p0) + (((v : ℝ) : EReal) - p1) * (((v : ℝ) : EReal) - p1)))

/-- `G` at the row or column a word denotes, zero when the word lies outside the image. -/
def pick {M : Type*} [Zero M] (w : BitVec 32) (G : Fin 28 → M) : M := if h : w.toNat < 28 then G ⟨w.toNat, h⟩ else 0

/-- Picking is a sum with one term that counts. -/
theorem pick_eq_sum {M : Type*} [AddCommMonoid M] (w : BitVec 32) (G : Fin 28 → M) :
    pick w G = ∑ u : Fin 28, if w.toNat = u.val then G u else 0 := by
  unfold pick
  split
  · next h =>
    rw [Finset.sum_eq_single (⟨w.toNat, h⟩ : Fin 28)]
    · simp
    · intro b _ hb
      rw [if_neg]
      intro e; exact hb (Fin.ext e.symm)
    · intro h; exact absurd (Finset.mem_univ _) h
  · next h =>
    symm
    apply Finset.sum_eq_zero
    intro u _
    rw [if_neg]
    have := u.isLt
    omega

/-- A finite position: the word of the cell at offset `o` is `u` exactly when the integer is. -/
theorem cell_coe (r : ℝ) (o : ℤ) (u : ℕ) (hu : u < 28) :
    (cell (r : EReal) o).toNat = u ↔ Ideal.roundHalfEven r + o = (u : ℤ) := by
  have e : cell (r : EReal) o = BitVec.ofInt 32 (max (-2147483648) (min 2147483647 (Ideal.roundHalfEven r + o))) := by
    unfold cell rnd Ideal.fptosi
    rw [Ideal.liftRound_coe, ← EReal.coe_add, ← Int.cast_add]
    show BitVec.ofInt 32 (max (-((2 ^ (32 - 1) : ℕ) : ℤ)) (min (((2 ^ (32 - 1) : ℕ) : ℤ) - 1)
      (if 0 ≤ (((Ideal.roundHalfEven r + o : ℤ) : ℝ)) then ⌊((Ideal.roundHalfEven r + o : ℤ) : ℝ)⌋ else ⌈((Ideal.roundHalfEven r + o : ℤ) : ℝ)⌉))) = _
    rw [Int.floor_intCast, Int.ceil_intCast, ite_self]
    norm_num
  rw [e, BitVec.toNat_ofInt]
  omega

/-- A finite position: nearness is on the integers. -/
theorem near_coe (r : ℝ) (u : ℕ) : near (r : EReal) u ↔ (u : ℤ) - Ideal.roundHalfEven r ≤ 2 ∧ Ideal.roundHalfEven r - (u : ℤ) ≤ 2 := by
  unfold near rnd
  rw [Ideal.liftRound_coe, ← EReal.coe_sub, ← EReal.coe_neg, max_lt_iff, EReal.coe_lt_coe_iff, EReal.coe_lt_coe_iff]
  generalize Ideal.roundHalfEven r = n
  have h1 : ((u : ℝ) - (n : ℝ)) = (((u : ℤ) - n : ℤ) : ℝ) := by push_cast; rfl
  rw [h1]
  generalize hk : ((u : ℤ) - n : ℤ) = k
  have h2 : n - (u : ℤ) = -k := by omega
  rw [h2]
  constructor
  · rintro ⟨a, b⟩
    constructor
    · have : (k : ℝ) < ((3 : ℤ) : ℝ) := by push_cast; linarith
      have := Int.cast_lt.mp this; omega
    · have : (-(k : ℝ)) < ((3 : ℤ) : ℝ) := by push_cast; linarith
      rw [← Int.cast_neg] at this
      have := Int.cast_lt.mp this; omega
  · rintro ⟨a, b⟩
    have a' : (k : ℝ) ≤ 2 := by exact_mod_cast a
    have b' : -(k : ℝ) ≤ 2 := by exact_mod_cast b
    constructor <;> linarith

/-- Nothing is near an infinite position. -/
theorem near_top (u : ℕ) : ¬ near ⊤ u := by
  unfold near rnd
  rw [Ideal.liftRound_top, sub_eq_add_neg, EReal.neg_top, EReal.add_bot, EReal.neg_bot]
  simp

/-- Nothing is near an infinite position. -/
theorem near_bot (u : ℕ) : ¬ near ⊥ u := by
  unfold near rnd
  rw [Ideal.liftRound_bot, sub_eq_add_neg, EReal.neg_bot, EReal.coe_add_top]
  simp

/-- The cells of an infinite position lie outside every image. -/
theorem cell_top (o : ℤ) : (cell ⊤ o).toNat = 2147483647 := by
  unfold cell rnd
  rw [Ideal.liftRound_top, EReal.top_add_coe]
  decide +kernel

/-- The cells of an infinite position lie outside every image. -/
theorem cell_bot (o : ℤ) : (cell ⊥ o).toNat = 2147483648 := by
  unfold cell rnd
  rw [Ideal.liftRound_bot, EReal.bot_add]
  decide +kernel

/-- The five cells round a position are the rows or columns near it. -/
theorem sum_pick {M : Type*} [AddCommMonoid M] (p : EReal) (G : Fin 28 → M) :
    ∑ a : Fin 5, pick (cell p ((a.val : ℤ) - 2)) G = ∑ u : Fin 28, if near p u.val then G u else 0 := by
  simp only [pick_eq_sum]
  rw [Finset.sum_comm]
  refine Finset.sum_congr rfl fun u _ => ?_
  have hu := u.isLt
  induction p with
  | bot =>
    rw [if_neg (near_bot _)]
    refine Finset.sum_eq_zero fun a _ => if_neg ?_
    rw [cell_bot]; omega
  | top =>
    rw [if_neg (near_top _)]
    refine Finset.sum_eq_zero fun a _ => if_neg ?_
    rw [cell_top]; omega
  | coe r =>
    simp only [cell_coe r _ u.val hu, near_coe]
    generalize Ideal.roundHalfEven r = n
    by_cases h : (u.val : ℤ) - n ≤ 2 ∧ n - (u.val : ℤ) ≤ 2
    · rw [if_pos h, Finset.sum_eq_single (⟨((u.val : ℤ) - n + 2).toNat, by omega⟩ : Fin 5)]
      · rw [if_pos]; simp only; omega
      · intro b _ hb
        rw [if_neg]
        intro e
        apply hb
        apply Fin.ext
        simp only
        omega
      · intro h; exact absurd (Finset.mem_univ _) h
    · rw [if_neg h]
      refine Finset.sum_eq_zero fun a _ => if_neg ?_
      have := a.isLt
      omega

/-- The same in two coordinates. -/
theorem sum_pick2 {M : Type*} [AddCommMonoid M] (p0 p1 : EReal) (G : Fin 28 → Fin 28 → M) :
    ∑ a : Fin 5, ∑ b : Fin 5, pick (cell p0 ((a.val : ℤ) - 2)) (fun u => pick (cell p1 ((b.val : ℤ) - 2)) (G u))
      = ∑ u : Fin 28, ∑ v : Fin 28, if near p0 u.val ∧ near p1 v.val then G u v else 0 := by
  have h : ∀ a : Fin 5, ∑ b : Fin 5, pick (cell p0 ((a.val : ℤ) - 2)) (fun u => pick (cell p1 ((b.val : ℤ) - 2)) (G u))
      = pick (cell p0 ((a.val : ℤ) - 2)) (fun u => ∑ b : Fin 5, pick (cell p1 ((b.val : ℤ) - 2)) (G u)) := by
    intro a
    by_cases h : (cell p0 ((a.val : ℤ) - 2)).toNat < 28 <;> simp [pick, h]
  rw [Finset.sum_congr rfl fun a _ => h a, sum_pick]
  refine Finset.sum_congr rfl fun u _ => ?_
  by_cases h : near p0 u.val
  · rw [if_pos h, sum_pick]; simp [h]
  · simp [h]

end Cert.Pixels
-- ==== Proof.MatRead.lean ====
module

public import proofs.«01_k».proof.Proof.IdealBody
public import proofs.«01_k».proof.Proof.Pixels
public import Idealize.ShloMosaic.Lib.Pointwise

@[expose] public section

set_option maxRecDepth 16384

noncomputable section

namespace Cert.KernelIdeal.Hand

open Cert.KernelIdeal Cert.KernelIdeal.Gen
open Idealize.ShloMosaic

/-- Row `n` lies in a 28×28 vector. -/
theorem slices_row (n : Fin 28) : S28x28.Slices ![n.val, 0] S1x28 := by revert n; decide

/-- The rows of a 28×28 vector, in order. -/
def rowsOf (X : FVec Ideal S28x28 .f32) (n : Fin 28) : S1x28.Idx → Ideal .f32 := extractStridedSlice S1x28 ![n.val, 0] X (slices_row n)

/-- The rows make up the flattened vector. -/
theorem rows_conc (X : FVec Ideal S28x28 .f32) :
    Shape.Concatenates ((List.ofFn fun n : Fin 28 => (⟨S1x28, rowsOf X n⟩ : (s : Shape) × (s.Idx → Ideal .f32))).map (·.1)) S1x784 1 :=
  concatenates_S1x28_S1x28_S1x28_S1x28_S1x28_S1x28_S1x28_S1x28_S1x28_S1x28_S1x28_S1x28_S1x28_S1x28_S1x28_S1x28_S1x28_S1x28_S1x28_S1x28_S1x28_S1x28_S1x28_S1x28_S1x28_S1x28_S1x28_S1x28_S1x784_d1

/-- The 28 rows of a 28×28 vector one after another, as the kernel flattens it. -/
def flatV (X : FVec Ideal S28x28 .f32) : FVec Ideal S1x784 .f32 :=
  concatenate S1x784 1 (List.ofFn fun n : Fin 28 => (⟨S1x28, rowsOf X n⟩ : (s : Shape) × (s.Idx → Ideal .f32))) (rows_conc X)

/-- The flattened vector at `q` is the vector at row `q / 28` and column `q % 28`. -/
theorem flatV_at (X : FVec Ideal S28x28 .f32) (z : Fin 1) (q : Fin 784) :
    flatV X (ix2 z q) = X (ix2 ⟨q.val / 28, by omega⟩ ⟨q.val % 28, by omega⟩) := by
  refine (concatenate_ofFn_apply (t := S1x784) (s₁ := S1x28) 1 (rowsOf X) (rows_conc X) rfl 28 rfl (ix2 z q) ⟨q.val / 28, by omega⟩ rfl
    (ix2 0 ⟨q.val % 28, by omega⟩) rfl (fun b hb => ?_)).trans ?_
  · match b with
    | ⟨0, _⟩ => show 0 = z.val; omega
    | ⟨1, _⟩ => exact absurd rfl hb
  · pointwise [rowsOf]

/-- The kernel's row of first coordinates is the flattened vector. -/
theorem posRow0_eq (v : FVec Ideal S28x28x1 .f32) : posRow0 v = flatV (shapeCast S28x28 v shapeCasts_S28x28x1_S28x28) := rfl
/-- The kernel's row of second coordinates is the flattened vector. -/
theorem posRow1_eq (v : FVec Ideal S28x28x1 .f32) : k0_pay19 v = flatV (shapeCast S28x28 v shapeCasts_S28x28x1_S28x28) := rfl
/-- The kernel's row of weights is the flattened vector, cut at zero. -/
theorem wRow_eq (v : FVec Ideal S28x28 .f32) : wRow v = maximumf (flatV v) (broadcast S1x784 (Scalar.ofBits .f32 0x00000000#32)) := rfl

/-- The word of a small natural number, as a number. -/
theorem sitofp_ofNat (n : ℕ) (h : n < 784) : FloatOps.sitofp (F := Ideal) .f32 (BitVec.ofNat 32 n) = ((n : ℝ) : EReal) := by
  show ((((BitVec.ofNat 32 n).toInt : ℤ) : ℝ) : EReal) = _
  rw [show (BitVec.ofNat 32 n).toInt = (n : ℤ) by
    rw [BitVec.toInt_eq_toNat_of_lt] <;> rw [BitVec.toNat_ofNat] <;> omega]
  rfl

/-- The row of pixel `q`, as a number. -/
theorem pay32_at (q p : Fin 784) : k0_pay32 (F := Ideal) (ix2 q p) = (((q.val / 28 : ℕ) : ℝ) : EReal) := by
  pointwise [k0_pay32]
  refine Eq.trans (congrArg (FloatOps.sitofp (F := Ideal) .f32) (?_ : _ = BitVec.ofNat 32 (q.val / 28))) (sitofp_ofNat _ (by omega))
  clear p
  revert q
  decide +kernel

/-- The literal 2.5. -/
theorem lit_five_halves : Ideal.ofBits .f32 0x40200000#32 = ((5 / 2 : ℝ) : EReal) := by
  simp [Ideal.ofBits, Ideal.ieee, -EReal.coe_mul]
  norm_num

/-- The distance to a rounded position is below the literal 2.5 exactly when the coordinate is near the position. -/
theorem near_iff (p : EReal) (u : ℕ) :
    (FloatOps.absf (F := Ideal) (φ := .f32) (((u : ℝ) : EReal) - Pixels.rnd p) < Ideal.ofBits .f32 1075838976#32) ↔ Pixels.near p u := by
  rw [lit_five_halves]
  rfl

/-- A choice by two decided bits is a choice by the two statements. -/
theorem select_two {α : Type} (P Q : Prop) [Decidable P] [Decidable Q] (a b : α) :
    Scalar.select (IntOp.andi (BitVec.ofBool (decide P)) (BitVec.ofBool (decide Q))) a b = if P ∧ Q then a else b := by
  by_cases hP : P <;> by_cases hQ : Q <;> simp [hP, hQ, Scalar.select, IntOp.andi]

/-- The matrix entry for pixel `(u, v)`, position `(p0, p1)` and weight `s`. -/
def entry (p0 p1 s : EReal) (u v : ℕ) : EReal := if Pixels.near p0 u ∧ Pixels.near p1 v then max s 0 * Pixels.wt p0 p1 u v else 0

/-- The matrix the kernel builds, at pixel `q` and position `p`. -/
theorem pay33_at (a b c d e : FVec Ideal S1x784 .f32) (f : FVec Ideal S784x784 .f32) (q p : Fin 784)
    (hd : d (ix2 0 p) = Pixels.rnd (a (ix2 0 p))) (he : e (ix2 0 p) = Pixels.rnd (b (ix2 0 p)))
    (hf : f (ix2 q p) = (((q.val / 28 : ℕ) : ℝ) : EReal)) (s : EReal) (hc : c (ix2 0 p) = max s 0) :
    k0_pay33 a b c d e (iota .tc S784x784 32 [0] iota_S784x784_d0_w32) f 28#32 0#32 (ix2 q p)
      = entry (a (ix2 0 p)) (b (ix2 0 p)) s (q.val / 28) (q.val % 28) := by
  pointwise [k0_pay33]
  generalize hw : FloatOps.sitofp (F := Ideal) .f32 _ = w
  have hw' : w = (((q.val % 28 : ℕ) : ℝ) : EReal) := by
    rw [← hw]
    refine Eq.trans (congrArg (FloatOps.sitofp (F := Ideal) .f32) (?_ : _ = BitVec.ofNat 32 (q.val % 28))) (sitofp_ofNat _ (by omega))
    clear hw w hd he hf hc s p f a b c d e
    revert q
    decide +kernel
  clear hw
  subst hw'
  rw [hd, he, hf, hc, select_two, entry]
  exact if_congr (and_congr (near_iff _ _) (near_iff _ _)) rfl rfl

/-- A product of a tile and the matrix is the sum over the pixels. -/
theorem pay34_at (X : FVec Ideal S256x784 .f32) (A : FVec Ideal S784x784 .f32) (n : Fin 256) (p : Fin 784) :
    k0_pay34 (F := Ideal) X A (ix2 n p) = ∑ q : Fin 784, X (ix2 n q) * A (ix2 q p) := by
  pointwise [k0_pay34]

/-- The second coordinates rounded. -/
theorem pay31_at (v : FVec Ideal S1x784 .f32) (z : Fin 1) (p : Fin 784) : k0_pay31 v (ix2 z p) = Pixels.rnd (v (ix2 z p)) := by
  pointwise [k0_pay31]
  try rfl
/-- The first coordinates rounded. -/
theorem pay30_at (v : FVec Ideal S1x784 .f32) (z : Fin 1) (p : Fin 784) : k0_pay30 v (ix2 z p) = Pixels.rnd (v (ix2 z p)) := by
  pointwise [k0_pay30]
  try rfl

/-- The first coordinates of the positions, as the kernel loads them. -/
theorem plane0_at (x0 : FVec Ideal S28x28x2 .f32) (i j : Fin 28) :
    shapeCast S28x28 (View.ld (Val := Elt Ideal) (e' := .f32) x0 (Rect.unit (s := S28x28x2) ![0, 0, 0] S28x28x1.size inb_S28x28x2_S28x28x1_0_0_0)) shapeCasts_S28x28x1_S28x28 (ix2 i j)
      = x0 (ix3 i j 0) := by
  pointwise []
/-- The second coordinates of the positions, as the kernel loads them. -/
theorem plane1_at (x0 : FVec Ideal S28x28x2 .f32) (i j : Fin 28) :
    shapeCast S28x28 (View.ld (Val := Elt Ideal) (e' := .f32) x0 (Rect.unit (s := S28x28x2) ![0, 0, 1] S28x28x1.size inb_S28x28x2_S28x28x1_0_0_1)) shapeCasts_S28x28x1_S28x28 (ix2 i j)
      = x0 (ix3 i j 1) := by
  pointwise []
/-- The weights, as the kernel loads them. -/
theorem whole_at (x1 : FVec Ideal S28x28 .f32) (i j : Fin 28) :
    View.ld (Val := Elt Ideal) (e' := .f32) x1 (Rect.unit (s := S28x28) ![0, 0] S28x28.size inb_S28x28_S28x28_0_0) (ix2 i j) = x1 (ix2 i j) := by
  pointwise []

/-- The kernel's matrix at pixel `q` and position `p`. -/
theorem matOf_at (x0 : FVec Ideal S28x28x2 .f32) (x1 : FVec Ideal S28x28 .f32) (q p : Fin 784) :
    matOf (F := Ideal) x0 x1 (ix2 q p)
      = entry (x0 (ix3 ⟨p.val / 28, by omega⟩ ⟨p.val % 28, by omega⟩ 0)) (x0 (ix3 ⟨p.val / 28, by omega⟩ ⟨p.val % 28, by omega⟩ 1))
          (x1 (ix2 ⟨p.val / 28, by omega⟩ ⟨p.val % 28, by omega⟩)) (q.val / 28) (q.val % 28) := by
  rw [matOf, matA, posRow0_eq, posRow1_eq, wRow_eq]
  refine (pay33_at _ _ _ _ _ _ q p (pay30_at _ 0 p) (pay31_at _ 0 p) (pay32_at q p) (x1 (ix2 ⟨p.val / 28, by omega⟩ ⟨p.val % 28, by omega⟩)) ?_).trans ?_
  · pointwise []
    rw [flatV_at, whole_at]
  · rw [flatV_at, flatV_at, plane0_at, plane1_at]

end Cert.KernelIdeal.Hand
-- ==== Proof.RefTerm.lean ====
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo

section Names
variable {F : FTy → Type} [FloatOps F]

/-- The offsets -2, …, 2 of the 5×5 window, by axis. -/
def offV : FVec F S5x5x2 .f32 :=
  sitofp .f32 (concatenate S5x5x2 2 [⟨S5x5x1, (broadcastInDim S5x5x1 ![0, 1] bcast_S5x5_S5x5x1_0_1 (broadcastInDim S5x5 ![0] bcast_S5_S5x5_0 (addi (broadcastInDim S5 ![] bcast_S_S5 (constantI S_ 32 4294967294#32)) (iotaInDim S5 32 0))))⟩, ⟨S5x5x1, (broadcastInDim S5x5x1 ![0, 1] bcast_S5x5_S5x5x1_0_1 (broadcastInDim S5x5 ![1] bcast_S5_S5x5_1 (addi (broadcastInDim S5 ![] bcast_S_S5 (constantI S_ 32 4294967294#32)) (iotaInDim S5 32 0))))⟩] concatenates_S5x5x1_S5x5x1_S5x5x2_d2)
/-- The cells round a position: the rounded position plus the offset, as integers. -/
def criV (p : FVec F S28x28x2 .f32) : IVec S28x28x5x5x2 32 :=
  fptosi 32 (addf (broadcastInDim S28x28x5x5x2 ![0, 1, 2, 3, 4] bcast_S28x28x1x1x2_S28x28x5x5x2_0_1_2_3_4 (broadcastInDim S28x28x1x1x2 ![0, 1, 4] bcast_S28x28x2_S28x28x1x1x2_0_1_4 (Host.roundeven p))) (broadcastInDim S28x28x5x5x2 ![0, 1, 2, 3, 4] bcast_S1x1x5x5x2_S28x28x5x5x2_0_1_2_3_4 (broadcastInDim S1x1x5x5x2 ![2, 3, 4] bcast_S5x5x2_S1x1x5x5x2_2_3_4 offV)))
/-- The cells' rows. -/
def cri0V (p : FVec F S28x28x2 .f32) : IVec S28x28x5x5 32 :=
  shapeCast _ (extractStridedSlice S28x28x5x5x1 ![0, 0, 0, 0, 0] (criV p) slices_S28x28x5x5x2_S28x28x5x5x1_0_0_0_0_0) shapeCasts_S28x28x5x5x1_S28x28x5x5
/-- The cells' columns. -/
def cri1V (p : FVec F S28x28x2 .f32) : IVec S28x28x5x5 32 :=
  shapeCast _ (extractStridedSlice S28x28x5x5x1 ![0, 0, 0, 0, 1] (criV p) slices_S28x28x5x5x2_S28x28x5x5x1_0_0_0_0_1) shapeCasts_S28x28x5x5x1_S28x28x5x5
/-- A row or column moved into the image. -/
def clipV (w : IVec S28x28x5x5 32) : IVec S28x28x5x5 32 :=
  select (cmpi .slt (minsi (broadcastInDim S28x28x5x5 ![] bcast_S_S28x28x5x5 (id (constantI S_ 32 27#32))) (maxsi (broadcastInDim S28x28x5x5 ![] bcast_S_S28x28x5x5 (id (constantI S_ 32 0#32))) w)) (broadcastInDim S28x28x5x5 ![] bcast_S_S28x28x5x5 (constantI S_ 32 0#32))) (addi (minsi (broadcastInDim S28x28x5x5 ![] bcast_S_S28x28x5x5 (id (constantI S_ 32 27#32))) (maxsi (broadcastInDim S28x28x5x5 ![] bcast_S_S28x28x5x5 (id (constantI S_ 32 0#32))) w)) (broadcastInDim S28x28x5x5 ![] bcast_S_S28x28x5x5 (constantI S_ 32 28#32))) (minsi (broadcastInDim S28x28x5x5 ![] bcast_S_S28x28x5x5 (id (constantI S_ 32 27#32))) (maxsi (broadcastInDim S28x28x5x5 ![] bcast_S_S28x28x5x5 (id (constantI S_ 32 0#32))) w))
/-- The places the image is read at. -/
def idxV (p : FVec F S28x28x2 .f32) : IVec S28x28x5x5x2 32 :=
  concatenate S28x28x5x5x2 4 [⟨S28x28x5x5x1, (broadcastInDim S28x28x5x5x1 ![0, 1, 2, 3] bcast_S28x28x5x5_S28x28x5x5x1_0_1_2_3 (clipV (cri0V p)))⟩, ⟨S28x28x5x5x1, (broadcastInDim S28x28x5x5x1 ![0, 1, 2, 3] bcast_S28x28x5x5_S28x28x5x5x1_0_1_2_3 (clipV (cri1V p)))⟩] concatenates_S28x28x5x5x1_S28x28x5x5x1_S28x28x5x5x2_d4
/-- Whether the cell lies in the image. -/
def validV (p : FVec F S28x28x2 .f32) : IVec S28x28x5x5 1 :=
  andi (andi (andi (cmpi .sge (cri0V p) (broadcastInDim S28x28x5x5 ![] bcast_S_S28x28x5x5 (constantI S_ 32 0#32))) (cmpi .slt (cri0V p) (broadcastInDim S28x28x5x5 ![] bcast_S_S28x28x5x5 (constantI S_ 32 28#32)))) (cmpi .sge (cri1V p) (broadcastInDim S28x28x5x5 ![] bcast_S_S28x28x5x5 (constantI S_ 32 0#32)))) (cmpi .slt (cri1V p) (broadcastInDim S28x28x5x5 ![] bcast_S_S28x28x5x5 (constantI S_ 32 28#32)))
/-- The image's value at the cell, zero outside the image. -/
def vV (x : FVec F S1024x1x28x28 .f32) (p : FVec F S28x28x2 .f32) : FVec F S1024x1x28x28x5x5 .f32 :=
  select (broadcastInDim S1024x1x28x28x5x5 ![0, 1, 2, 3, 4, 5] bcast_S1x1x28x28x5x5_S1024x1x28x28x5x5_0_1_2_3_4_5 (broadcastInDim S1x1x28x28x5x5 ![2, 3, 4, 5] bcast_S28x28x5x5_S1x1x28x28x5x5_2_3_4_5 (validV p))) (Host.gather gather_S1024x1x28x28_S28x28x5x5x2_S1024x1x28x28x5x5_01_23_n_n_23_4_1024111 x (idxV p)) (broadcastInDim S1024x1x28x28x5x5 ![] bcast_S_S1024x1x28x28x5x5 (id (constant S_ .f32 0x00000000#32)))
/-- The weight by distance of the cell from the position. -/
def wV (p : FVec F S28x28x2 .f32) : FVec F S28x28x5x5 .f32 :=
  Host.exp (mulf (broadcastInDim S28x28x5x5 ![] bcast_S_S28x28x5x5 (constant S_ .f32 0xBF000000#32)) (Host.reduceAdd (mulf (subf (sitofp .f32 (criV p)) (broadcastInDim S28x28x5x5x2 ![0, 1, 2, 3, 4] bcast_S28x28x1x1x2_S28x28x5x5x2_0_1_2_3_4 (broadcastInDim S28x28x1x1x2 ![0, 1, 4] bcast_S28x28x2_S28x28x1x1x2_0_1_4 p))) (subf (sitofp .f32 (criV p)) (broadcastInDim S28x28x5x5x2 ![0, 1, 2, 3, 4] bcast_S28x28x1x1x2_S28x28x5x5x2_0_1_2_3_4 (broadcastInDim S28x28x1x1x2 ![0, 1, 4] bcast_S28x28x2_S28x28x1x1x2_0_1_4 p)))) (constant S_ .f32 0x00000000#32) reducesTo_S28x28x5x5x2_S28x28x5x5_d4 h_S_))
/-- What each cell adds to the result. -/
def termV (x : FVec F S1024x1x28x28 .f32) (p : FVec F S28x28x2 .f32) (s : FVec F S28x28 .f32) : FVec F S1024x1x28x28x5x5 .f32 :=
  mulf (select (cmpf .ole (Host.absf (vV x p)) (broadcastInDim S1024x1x28x28x5x5 ![] bcast_S_S1024x1x28x28x5x5 (constant S_ .f32 0x322BCC77#32))) (vV x p) (mulf (vV x p) (broadcastInDim S1024x1x28x28x5x5 ![0, 1, 2, 3, 4, 5] bcast_S1x1x28x28x5x5_S1024x1x28x28x5x5_0_1_2_3_4_5 (broadcastInDim S1x1x28x28x5x5 ![2, 3, 4, 5] bcast_S28x28x5x5_S1x1x28x28x5x5_2_3_4_5 (wV p))))) (broadcastInDim S1024x1x28x28x5x5 ![0, 1, 2, 3, 4, 5] bcast_S1x1x28x28x1x1_S1024x1x28x28x5x5_0_1_2_3_4_5 (broadcastInDim S1x1x28x28x1x1 ![2, 3] bcast_S28x28_S1x1x28x28x1x1_2_3 (maximumf s (broadcastInDim S28x28 ![] bcast_S_S28x28 (constant S_ .f32 0x00000000#32)))))
/-- The reference's result, from its three arguments. -/
def outV (x : FVec F S1024x1x28x28 .f32) (p : FVec F S28x28x2 .f32) (s : FVec F S28x28 .f32) : FVec F S1024x1x28x28 .f32 :=
  Host.reduceAdd (termV x p s) (constant S_ .f32 0x00000000#32) reducesTo_S1024x1x28x28x5x5_S1024x1x28x28_d4_5 h_S_

/-- The result the reference's run leaves is `outV` of its arguments. -/
theorem res_eq (m : (ℓ : Loc nD τ sig) → Buf (Elt F) ℓ) (c : Dev nD) :
    res_main_v80 m c = outV (m ((c.tc : Thread nD τ).loc main_arg0)) (m ((c.tc : Thread nD τ).loc main_arg1))
      (m ((c.tc : Thread nD τ).loc main_arg2)) := rfl

end Names

end Cert.ReferenceIdeal.Hand
-- ==== Proof.RefRead.lean ====
module

public import proofs.«01_k».proof.Proof.RefTerm
public import proofs.«01_k».proof.Proof.Pixels

@[expose] public section

set_option maxRecDepth 16384

noncomputable section

namespace Cert.ReferenceIdeal.Hand

open Cert.ReferenceIdeal Cert.ReferenceIdeal.Gen
open Idealize.ShloMosaic

/-- The offset of a window row. -/
theorem offV_at0 (a b : Fin 5) : offV (F := Ideal) (ix3 a b 0) = ((((a.val : ℤ) - 2 : ℤ) : ℝ) : EReal) := by
  pointwise [offV]
  refine congrArg (fun t : ℤ => ((t : ℝ) : EReal)) (?_ : BitVec.toInt _ = _)
  revert a
  clear b
  decide +kernel

/-- The offset of a window column. -/
theorem offV_at1 (a b : Fin 5) : offV (F := Ideal) (ix3 a b 1) = ((((b.val : ℤ) - 2 : ℤ) : ℝ) : EReal) := by
  pointwise [offV]
  refine congrArg (fun t : ℤ => ((t : ℝ) : EReal)) (?_ : BitVec.toInt _ = _)
  revert b
  clear a
  decide +kernel

/-- A cell of the window by axis. -/
theorem criV_at (p : FVec Ideal S28x28x2 .f32) (i j : Fin 28) (a b : Fin 5) (k : Fin 2) (o : ℤ)
    (ho : offV (F := Ideal) (ix3 a b k) = ((o : ℝ) : EReal)) : criV p (ix5 i j a b k) = Pixels.cell (p (ix3 i j k)) o := by
  pointwise [criV]
  rw [ho]
  rfl

/-- The row of a cell. -/
theorem cri0V_at (p : FVec Ideal S28x28x2 .f32) (i j : Fin 28) (a b : Fin 5) :
    cri0V p (ix4 i j a b) = Pixels.cell (p (ix3 i j 0)) ((a.val : ℤ) - 2) := by
  refine Eq.trans ?_ (criV_at p i j a b 0 _ (offV_at0 a b))
  pointwise [cri0V]

/-- The column of a cell. -/
theorem cri1V_at (p : FVec Ideal S28x28x2 .f32) (i j : Fin 28) (a b : Fin 5) :
    cri1V p (ix4 i j a b) = Pixels.cell (p (ix3 i j 1)) ((b.val : ℤ) - 2) := by
  refine Eq.trans ?_ (criV_at p i j a b 1 _ (offV_at1 a b))
  pointwise [cri1V]

/-- A row or column of the image stays where it is. -/
theorem clipV_at (w : IVec S28x28x5x5 32) (i j : Fin 28) (a b : Fin 5) (u : Fin 28) (h : w (ix4 i j a b) = BitVec.ofNat 32 u.val) :
    clipV w (ix4 i j a b) = BitVec.ofNat 32 u.val := by
  pointwise [clipV]
  rw [h]
  clear h
  revert u
  decide +kernel

/-- The row read. -/
theorem idxV_at0 (p : FVec Ideal S28x28x2 .f32) (i j : Fin 28) (a b : Fin 5) : idxV p (ix5 i j a b 0) = clipV (cri0V p) (ix4 i j a b) := by
  pointwise [idxV]
/-- The column read. -/
theorem idxV_at1 (p : FVec Ideal S28x28x2 .f32) (i j : Fin 28) (a b : Fin 5) : idxV p (ix5 i j a b 1) = clipV (cri1V p) (ix4 i j a b) := by
  pointwise [idxV]

/-- Where the gather reads component `k` of its start. -/
theorem siIdx_at (n : Fin 1024) (z : Fin 1) (i j : Fin 28) (a b : Fin 5) (k : Fin 2) :
    gather_S1024x1x28x28_S28x28x5x5x2_S1024x1x28x28x5x5_01_23_n_n_23_4_1024111.siIdx (ix6 n z i j a b) k = ix5 i j a b k :=
  funext fun t => match t with
    | ⟨0, _⟩ => rfl
    | ⟨1, _⟩ => rfl
    | ⟨2, _⟩ => rfl
    | ⟨3, _⟩ => rfl
    | ⟨4, _⟩ => rfl

/-- The gathered element, at a place in the image. -/
theorem gather_at (x : FVec Ideal S1024x1x28x28 .f32) (I : IVec S28x28x5x5x2 32) (n : Fin 1024) (z : Fin 1) (i j : Fin 28) (a b : Fin 5)
    (u v : Fin 28) (hu : I (ix5 i j a b 0) = BitVec.ofNat 32 u.val) (hv : I (ix5 i j a b 1) = BitVec.ofNat 32 v.val) :
    Host.gather gather_S1024x1x28x28_S28x28x5x5x2_S1024x1x28x28x5x5_01_23_n_n_23_4_1024111 x I (ix6 n z i j a b) = x (ix4 n z u v) := by
  have hc : ∀ w : Fin 28, min (BitVec.ofNat 32 w.val).toInt.toNat 27 = w.val := by decide +kernel
  show x _ = x _
  refine congrArg x (funext fun k => Fin.ext ?_)
  match k with
  | ⟨0, _⟩ => show 0 + 0 + n.val = n.val; omega
  | ⟨1, _⟩ => show 0 + 0 + z.val = z.val; omega
  | ⟨2, _⟩ =>
    refine Eq.trans (?_ : _ = min (I (ix5 i j a b 0)).toInt.toNat 27) ((congrArg (fun t : BitVec 32 => min t.toInt.toNat 27) hu).trans (hc u))
    exact congrArg (fun t => min (I t).toInt.toNat 27) (siIdx_at n z i j a b 0)
  | ⟨3, _⟩ =>
    refine Eq.trans (?_ : _ = min (I (ix5 i j a b 1)).toInt.toNat 27) ((congrArg (fun t : BitVec 32 => min t.toInt.toNat 27) hv).trans (hc v))
    exact congrArg (fun t => min (I t).toInt.toNat 27) (siIdx_at n z i j a b 1)

/-- A word is a row or column of the image exactly when the two signed comparisons say so. -/
theorem inside_word (w : BitVec 32) : (BitVec.sle 0#32 w && BitVec.slt w 28#32) = decide (w.toNat < 28) := by
  rw [Bool.eq_iff_iff, Bool.and_eq_true, BitVec.sle_iff_toInt_le, BitVec.slt_iff_toInt_lt, decide_eq_true_iff, BitVec.toInt_eq_toNat_cond w,
    show (28#32).toInt = 28 from rfl, show (0#32).toInt = 0 from rfl]
  have := w.isLt
  split <;> omega

/-- A cell is valid exactly when its row and its column lie in the image. -/
theorem validV_at (p : FVec Ideal S28x28x2 .f32) (i j : Fin 28) (a b : Fin 5) :
    validV p (ix4 i j a b) = BitVec.ofBool (decide ((Pixels.cell (p (ix3 i j 0)) ((a.val : ℤ) - 2)).toNat < 28)
      && decide ((Pixels.cell (p (ix3 i j 1)) ((b.val : ℤ) - 2)).toNat < 28)) := by
  rw [← inside_word, ← inside_word]
  pointwise [validV]
  rw [cri0V_at, cri1V_at]
  generalize Pixels.cell (p (ix3 i j 0)) ((a.val : ℤ) - 2) = w0
  generalize Pixels.cell (p (ix3 i j 1)) ((b.val : ℤ) - 2) = w1
  show BitVec.ofBool (BitVec.sle 0#32 w0) &&& BitVec.ofBool (BitVec.slt w0 28#32) &&& BitVec.ofBool (BitVec.sle 0#32 w1) &&& BitVec.ofBool (BitVec.slt w1 28#32) = _
  generalize BitVec.sle 0#32 w0 = b0
  generalize BitVec.slt w0 28#32 = b1
  generalize BitVec.sle 0#32 w1 = b2
  generalize BitVec.slt w1 28#32 = b3
  revert b0 b1 b2 b3
  decide

/-- A word is the word of its number. -/
theorem word_self (w : BitVec 32) : w = BitVec.ofNat 32 w.toNat := by simp

/-- Inside the image the value read is the image's. -/
theorem vV_in (x : FVec Ideal S1024x1x28x28 .f32) (p : FVec Ideal S28x28x2 .f32) (n : Fin 1024) (z : Fin 1) (i j : Fin 28) (a b : Fin 5)
    (h0 : (Pixels.cell (p (ix3 i j 0)) ((a.val : ℤ) - 2)).toNat < 28) (h1 : (Pixels.cell (p (ix3 i j 1)) ((b.val : ℤ) - 2)).toNat < 28) :
    vV x p (ix6 n z i j a b) = x (ix4 n z ⟨_, h0⟩ ⟨_, h1⟩) := by
  pointwise [vV]
  rw [validV_at, decide_eq_true h0, decide_eq_true h1]
  refine (?_ : Scalar.select 1#1 _ _ = _)
  refine Eq.trans (?_ : _ = Host.gather _ x (idxV p) (ix6 n z i j a b)) (gather_at x (idxV p) n z i j a b ⟨_, h0⟩ ⟨_, h1⟩ ?_ ?_)
  · rfl
  · rw [idxV_at0]
    exact clipV_at _ i j a b ⟨_, h0⟩ ((cri0V_at p i j a b).trans (word_self _))
  · rw [idxV_at1]
    exact clipV_at _ i j a b ⟨_, h1⟩ ((cri1V_at p i j a b).trans (word_self _))

/-- Outside the image the value read is zero. -/
theorem vV_out (x : FVec Ideal S1024x1x28x28 .f32) (p : FVec Ideal S28x28x2 .f32) (n : Fin 1024) (z : Fin 1) (i j : Fin 28) (a b : Fin 5)
    (h : ¬ ((Pixels.cell (p (ix3 i j 0)) ((a.val : ℤ) - 2)).toNat < 28 ∧ (Pixels.cell (p (ix3 i j 1)) ((b.val : ℤ) - 2)).toNat < 28)) :
    vV x p (ix6 n z i j a b) = 0 := by
  pointwise [vV]
  rw [validV_at, ← Bool.decide_and, decide_eq_false h]
  exact Ideal.ofBits_zero_f32

/-- The number of a word of the image. -/
theorem sitofp_word (w : BitVec 32) (h : w.toNat < 28) : FloatOps.sitofp (F := Ideal) .f32 w = ((w.toNat : ℝ) : EReal) := by
  show (((w.toInt : ℤ) : ℝ) : EReal) = _
  rw [BitVec.toInt_eq_toNat_of_lt (by omega)]
  rfl

/-- The weight of a cell in the image. -/
theorem wV_at (p : FVec Ideal S28x28x2 .f32) (i j : Fin 28) (a b : Fin 5) (h0 : (Pixels.cell (p (ix3 i j 0)) ((a.val : ℤ) - 2)).toNat < 28) (h1 : (Pixels.cell (p (ix3 i j 1)) ((b.val : ℤ) - 2)).toNat < 28) :
    wV p (ix4 i j a b) = Pixels.wt (p (ix3 i j 0)) (p (ix3 i j 1)) (Pixels.cell (p (ix3 i j 0)) ((a.val : ℤ) - 2)).toNat (Pixels.cell (p (ix3 i j 1)) ((b.val : ℤ) - 2)).toNat := by
  pointwise [wV]
  rw [Fin.sum_univ_two, criV_at p i j a b 0 _ (offV_at0 a b), criV_at p i j a b 1 _ (offV_at1 a b), sitofp_word _ h0, sitofp_word _ h1]
  rfl

/-- The small bound that `where` compares with. -/
def thr : EReal := Ideal.ofBits .f32 0x322BCC77#32

/-- The small bound is not negative. -/
theorem thr_pos : 0 ≤ thr := by
  simp [thr, Ideal.ofBits, Ideal.ieee, -EReal.coe_mul]

/-- What a cell adds: its weighted value when it lies in the image, else nothing. -/
theorem termV_at (x : FVec Ideal S1024x1x28x28 .f32) (p : FVec Ideal S28x28x2 .f32) (s : FVec Ideal S28x28 .f32)
    (hx : ∀ n z u v, x (ix4 n z u v) = 0 ∨ thr < max (x (ix4 n z u v)) (-(x (ix4 n z u v)))) (n : Fin 1024) (z : Fin 1) (i j : Fin 28) (a b : Fin 5) :
    termV x p s (ix6 n z i j a b) = Pixels.pick (Pixels.cell (p (ix3 i j 0)) ((a.val : ℤ) - 2)) (fun u => Pixels.pick (Pixels.cell (p (ix3 i j 1)) ((b.val : ℤ) - 2))
      (fun v => x (ix4 n z u v) * (max (s (ix2 i j)) 0 * Pixels.wt (p (ix3 i j 0)) (p (ix3 i j 1)) u.val v.val))) := by
  pointwise [termV]
  by_cases h : (Pixels.cell (p (ix3 i j 0)) ((a.val : ℤ) - 2)).toNat < 28 ∧ (Pixels.cell (p (ix3 i j 1)) ((b.val : ℤ) - 2)).toNat < 28
  · obtain ⟨h0, h1⟩ := h
    rw [vV_in x p n z i j a b h0 h1, wV_at p i j a b h0 h1, Pixels.pick, dif_pos h0, Pixels.pick, dif_pos h1]
    rcases hx n z ⟨_, h0⟩ ⟨_, h1⟩ with e | e
    · rw [e]; simp
    · rw [if_neg (show ¬ FloatOps.absf (F := Ideal) (φ := .f32) _ ≤ Ideal.ofBits .f32 841731191#32 from not_le.mpr e), mul_assoc, mul_comm (max _ _)]
  · rw [vV_out x p n z i j a b h]
    trans 0
    · simp
    · by_cases h0 : (Pixels.cell (p (ix3 i j 0)) ((a.val : ℤ) - 2)).toNat < 28
      · rw [Pixels.pick, dif_pos h0, Pixels.pick, dif_neg (fun h1 => h ⟨h0, h1⟩)]
      · rw [Pixels.pick, dif_neg h0]

/-- The sum over the window's axes of a six-axis array. -/
theorem sum_window (f : S1024x1x28x28x5x5.Idx → EReal) (n : Fin 1024) (z : Fin 1) (i j : Fin 28) :
    Ideal.hostReduceAdd reducesTo_S1024x1x28x28x5x5_S1024x1x28x28_d4_5 f 0 (ix4 n z i j) = ∑ a : Fin 5, ∑ b : Fin 5, f (ix6 n z i j a b) := by
  have fib : ∀ y : S1024x1x28x28x5x5.Idx, (reducesTo_S1024x1x28x28x5x5_S1024x1x28x28_d4_5 : S1024x1x28x28x5x5.ReducesTo [4, 5] S1024x1x28x28).drop y = ix4 n z i j
      ↔ ∃ k : Fin 5 × Fin 5, ix6 n z i j k.1 k.2 = y := by
    intro y
    constructor
    · intro e
      refine ⟨(y 4, y 5), funext fun t => Fin.ext ?_⟩
      match t with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => exact (congrArg Fin.val (congrFun e 3)).symm
      | ⟨4, _⟩ => rfl
      | ⟨5, _⟩ => rfl
    · rintro ⟨k, rfl⟩
      refine funext fun t => Fin.ext ?_
      match t with
      | ⟨0, _⟩ => rfl
      | ⟨1, _⟩ => rfl
      | ⟨2, _⟩ => rfl
      | ⟨3, _⟩ => rfl
  refine (zero_add _).trans ((Finset.sum_filter_eq_sum_of_fiber _ (fun k : Fin 5 × Fin 5 => ix6 n z i j k.1 k.2)
    (fun _ _ e => Prod.ext (congrFun e 4) (congrFun e 5)) fib f).trans ?_)
  exact Fintype.sum_prod_type _

/-- The reference's result: the weighted sum over the pixels near the position. -/
theorem outV_at (x : FVec Ideal S1024x1x28x28 .f32) (p : FVec Ideal S28x28x2 .f32) (s : FVec Ideal S28x28 .f32)
    (hx : ∀ n z u v, x (ix4 n z u v) = 0 ∨ thr < max (x (ix4 n z u v)) (-(x (ix4 n z u v)))) (n : Fin 1024) (z : Fin 1) (i j : Fin 28) :
    outV x p s (ix4 n z i j) = ∑ u : Fin 28, ∑ v : Fin 28, if Pixels.near (p (ix3 i j 0)) u.val ∧ Pixels.near (p (ix3 i j 1)) v.val then
      x (ix4 n z u v) * (max (s (ix2 i j)) 0 * Pixels.wt (p (ix3 i j 0)) (p (ix3 i j 1)) u.val v.val) else 0 := by
  pointwise [outV]
  refine (sum_window _ n z i j).trans ?_
  rw [← Pixels.sum_pick2]
  exact Finset.sum_congr rfl fun a _ => Finset.sum_congr rfl fun b _ => termV_at x p s hx n z i j a b

end Cert.ReferenceIdeal.Hand
-- ==== Proof.Equation.lean ====
module

public import proofs.«01_k».proof.Proof.MatRead
public import proofs.«01_k».proof.Proof.IdealFrame
public import proofs.«01_k».proof.Proof.RefRead
public import proofs.«01_k».proof.Pre_no_tiny

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- The region's image operand is the reshaped argument. -/
theorem V_v0 (c : Dev nD) (n : Fin 1024) (q : Fin 784) :
    V (F := Ideal) m c main_v0 (ix2 n q) = m ((c : Thread nD τ).loc main_arg0) (ix4 n 0 ⟨q.val / 28, by omega⟩ ⟨q.val % 28, by omega⟩) := by
  have e : V (F := Ideal) m c main_v0 = fun i => shapeCast S1024x784 (m ((c : Thread nD τ).loc main_arg0)) shapeCasts_S1024x1x28x28_S1024x784 i := by
    rfl
  rw [e]
  pointwise []

/-- The first staged operand is the positions. -/
theorem iblk0 (c : Dev nD) : iblk (F := Ideal) m c 0 t0_0 = m ((c : Thread nD τ).loc main_arg1) := by
  refine Eq.trans ?_ (V_main_arg1 m c)
  funext x
  show V m c main_arg1 _ = V m c main_arg1 x
  refine congrArg _ (funext fun a => Fin.ext ?_)
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- The second staged operand is the weights. -/
theorem iblk1 (c : Dev nD) : iblk (F := Ideal) m c 1 t0_0 = m ((c : Thread nD τ).loc main_arg2) := by
  refine Eq.trans ?_ (V_main_arg2 m c)
  funext x
  show V m c main_arg2 _ = V m c main_arg2 x
  refine congrArg _ (funext fun a => Fin.ext ?_)
  match a with
  | ⟨0, _⟩ => exact (Nat.zero_add _).trans (Nat.one_mul _)
  | ⟨1, _⟩ => exact (Nat.zero_add _).trans (Nat.one_mul _)

/-- A block of the images. -/
theorem xblk_at (c : Dev nD) (b : Fin 4) (n : Fin 256) (q : Fin 784) :
    (xblk b).view.read (Elt Ideal) (V m c main_v0) (ix2 n q) = V (F := Ideal) m c main_v0 (ix2 ⟨256 * b.val + n.val, by omega⟩ q) := by
  show V m c main_v0 ((rowR b).emb (ix2 n q)) = _
  refine congrArg _ (funext fun a => Fin.ext ?_)
  match a with
  | ⟨0, _⟩ => show 256 * b.val + 1 * n.val = 256 * b.val + n.val; omega
  | ⟨1, _⟩ => show 0 + 1 * q.val = q.val; omega

/-- A sum over the 784 pixels is a sum over rows and columns. -/
theorem sum_pixels (f : Fin 28 → Fin 28 → EReal) :
    ∑ q : Fin 784, f ⟨q.val / 28, by omega⟩ ⟨q.val % 28, by omega⟩ = ∑ u : Fin 28, ∑ v : Fin 28, f u v := by
  rw [← Fintype.sum_prod_type' f]
  exact Fintype.sum_equiv (finProdFinEquiv (m := 28) (n := 28)).symm _ _ fun q => rfl

/-- The kernel's result: the weighted sum over the pixels near the position. -/
theorem resV_at (c : Dev nD) (n : Fin 1024) (z : Fin 1) (i j : Fin 28)
    (x : FVec Ideal S1024x1x28x28 .f32) (hx : x = m ((c : Thread nD τ).loc main_arg0))
    (p : FVec Ideal S28x28x2 .f32) (hp : p = m ((c : Thread nD τ).loc main_arg1))
    (s : FVec Ideal S28x28 .f32) (hs : s = m ((c : Thread nD τ).loc main_arg2)) :
    resV (F := Ideal) m c (ix4 n z i j) = ∑ u : Fin 28, ∑ v : Fin 28, x (ix4 n z u v)
      * entry (p (ix3 i j 0)) (p (ix3 i j 1)) (s (ix2 i j)) u.val v.val := by
  have e1 : resV (F := Ideal) m c (ix4 n z i j) = (outAll (F := Ideal) m c : FVec Ideal S1024x784 .f32) (ix2 n ⟨i.val * 28 + j.val, by omega⟩) := by
    show shapeCast S1024x1x28x28 (outAll (F := Ideal) m c : FVec Ideal S1024x784 .f32) shapeCasts_S1024x784_S1024x1x28x28 (ix4 n z i j) = _
    pointwise []
  have e2 : ∀ r : Fin 784, (outAll (F := Ideal) m c : FVec Ideal S1024x784 .f32) (ix2 n r)
      = outBlk (F := Ideal) m c ⟨n.val / 256, by omega⟩ (ix2 ⟨n.val % 256, Nat.mod_lt _ (by decide)⟩ r) := fun r => by
    show outBlk (F := Ideal) m c _ _ = _
    refine congrArg _ (funext fun a => ?_)
    match a with
    | ⟨0, _⟩ => rfl
    | ⟨1, _⟩ => rfl
  rw [e1, e2, outBlk, pay34_at, ← sum_pixels (fun u v => x (ix4 n z u v) * entry (p (ix3 i j 0)) (p (ix3 i j 1)) (s (ix2 i j)) u.val v.val)]
  refine Finset.sum_congr (M := EReal) rfl fun q _ => ?_
  rw [xblk_at, V_v0, iblk0, iblk1, ← hx, ← hp, ← hs, matOf_at]
  have hn : (⟨256 * (n.val / 256) + n.val % 256, by omega⟩ : Fin 1024) = n := Fin.ext (Nat.div_add_mod _ _)
  have hi : (⟨(i.val * 28 + j.val) / 28, by omega⟩ : Fin 28) = i := Fin.ext (by show (i.val * 28 + j.val) / 28 = i.val; omega)
  have hj : (⟨(i.val * 28 + j.val) % 28, by omega⟩ : Fin 28) = j := Fin.ext (by show (i.val * 28 + j.val) % 28 = j.val; omega)
  have hz : z = 0 := Fin.ext (by omega)
  subst hz
  show x (ix4 ⟨256 * (n.val / 256) + n.val % 256, _⟩ _ _ _) * entry (p (ix3 ⟨(i.val * 28 + j.val) / 28, _⟩ ⟨(i.val * 28 + j.val) % 28, _⟩ 0)) _ _ _ _ = _
  rw [hn, hi, hj]

/-- What the precondition says of an image's element. -/
theorem pre_at (hf : Cert.Pre_no_tiny.Facts) (x : FVec Ideal S1024x1x28x28 .f32) (p : FVec Ideal S28x28x2 .f32) (s : FVec Ideal S28x28 .f32)
    (h : Cert.Pre_no_tiny.fn (F := Ideal) x p s = fun _ => 1#1) (n : Fin 1024) (z : Fin 1) (u v : Fin 28) :
    x (ix4 n z u v) = 0 ∨ Cert.ReferenceIdeal.Hand.thr < max (x (ix4 n z u v)) (-(x (ix4 n z u v))) := by
  have e := congrFun h (ix4 n z u v)
  revert e
  pointwise [Cert.Pre_no_tiny.fn]
  intro e
  by_cases h0 : x (ix4 n z u v) = 0
  · exact Or.inl h0
  · refine Or.inr ?_
    rw [decide_eq_false h0] at e
    by_contra h1
    rw [decide_eq_false (show ¬ Ideal.ofBits .f32 841731191#32 < FloatOps.absf (F := Ideal) (φ := .f32) (x (ix4 n z u v)) from h1)] at e
    exact absurd e (by decide)

/-- The reference's result and the kernel's agree, from equal arguments that meet the precondition. -/
theorem out_eq (c : Dev nD) (hf : Cert.Pre_no_tiny.Facts)
    (x : FVec Ideal S1024x1x28x28 .f32) (hx : x = m ((c : Thread nD τ).loc main_arg0))
    (p : FVec Ideal S28x28x2 .f32) (hp : p = m ((c : Thread nD τ).loc main_arg1))
    (s : FVec Ideal S28x28 .f32) (hs : s = m ((c : Thread nD τ).loc main_arg2))
    (h : Cert.Pre_no_tiny.fn (F := Ideal) x p s = fun _ => 1#1) :
    Cert.ReferenceIdeal.Hand.outV x p s = resV (F := Ideal) m c := by
  funext y
  obtain ⟨n, z, i, j, rfl⟩ : ∃ (n : Fin 1024) (z : Fin 1) (i j : Fin 28), y = ix4 n z i j := ⟨y 0, y 1, y 2, y 3, (by
    funext a
    match a with
    | ⟨0, _⟩ => rfl
    | ⟨1, _⟩ => rfl
    | ⟨2, _⟩ => rfl
    | ⟨3, _⟩ => rfl)⟩
  rw [resV_at m c n z i j x hx p hp s hs]
  refine (Cert.ReferenceIdeal.Hand.outV_at x p s (pre_at hf x p s h) n z i j).trans ?_
  refine Finset.sum_congr rfl fun u _ => Finset.sum_congr rfl fun v _ => ?_
  rw [entry, mul_ite, mul_zero]

end Cert.KernelIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.PlainFrame
public import proofs.«01_k».proof.Proof.IdealFrame
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The precondition's program is well formed. -/
theorem pre_facts : Cert.Pre_no_tiny.Facts := ⟨by decide⟩

/-- The reference runs to its end from any memory with its arguments unchanged; it declares no semaphore. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩) (Cert.ReferenceIdeal.Value.run (F := Ideal) m g)

/-- From equal arguments that meet the precondition the kernel and the reference end with equal results. -/
theorem algebraic : Cert.algebraic_KernelIdeal_ReferenceIdeal_pre_no_tiny (hKernelIdeal := Cert.KernelIdeal.Gen.facts)
    (hReferenceIdeal := Cert.ReferenceIdeal.Gen.facts) (hPre_no_tiny := pre_facts) := by
  intro m g m' g' hpre hargs
  refine ⟨fun c => Cert.KernelIdeal.Hand.resV (F := Ideal) m c,
    (θ_run _ _ _).mono (fun r h => h.1) (Cert.KernelIdeal.Hand.run_value (F := Ideal) m g), ?_⟩
  refine (θ_run (Cert.ReferenceIdeal.defs (F := Ideal)) _ _).mono (fun r h c => ?_) (Cert.ReferenceIdeal.Value.run (F := Ideal) m' g')
  obtain ⟨hv, h0, h1, h2⟩ := h c
  refine ⟨hv.trans ?_, h0, h1, h2⟩
  obtain ⟨ha0, ha1, ha2⟩ := hargs c
  rw [Cert.ReferenceIdeal.Hand.res_eq]
  exact Cert.KernelIdeal.Hand.out_eq m c pre_facts _ ha0 _ ha1 _ ha2 (by rw [ha0, ha1, ha2]; exact hpre c)

theorem claim : Cert.Claim :=
  ⟨Cert.Kernel.Gen.facts, Cert.KernelIdeal.Gen.facts, Cert.ReferenceIdeal.Gen.facts, pre_facts,
    fun m g _ => (θ_run _ _ _).mono (fun r h => ⟨fun c => (h.1 c).2, h.2⟩) (Cert.Kernel.Hand.run_value (F := Bits) m g),
    fun m g _ => (θ_run _ _ _).mono (fun r h => ⟨fun c => (h.1 c).2, h.2⟩) (Cert.KernelIdeal.Hand.run_value (F := Ideal) m g),
    fun m g _ => (θ_run _ _ _).mono (fun r h => ⟨fun c => (h.1 c).2, h.2⟩) (Cert.KernelIdeal.Hand.run_value (F := Ideal) m g),
    fun m g _ => ref_frame m g, fun m g _ => ref_frame m g, trivial, algebraic⟩

end Cert.Proof

end
